-- ==== Defs.lean ====
def Pre_Dq (m : (ℓ : Loc Cert.Dq.nD Cert.Dq.τ Cert.Dq.sig) → Buf (Elt Bits) ℓ) : Prop :=
  True

def Pre_DqIdeal (m : (ℓ : Loc Cert.DqIdeal.nD Cert.DqIdeal.τ Cert.DqIdeal.sig) → Buf (Elt Ideal) ℓ) : Prop :=
  True

def Pre_DqRefIdeal (m : (ℓ : Loc Cert.DqRefIdeal.nD Cert.DqRefIdeal.τ Cert.DqRefIdeal.sig) → Buf (Elt Ideal) ℓ) : Prop :=
  True

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsRefIdeal (m : (ℓ : Loc Cert.LogitsRefIdeal.nD Cert.LogitsRefIdeal.τ Cert.LogitsRefIdeal.sig) → Buf (Elt Ideal) ℓ) : Prop :=
  True

def Pre_Dp (m : (ℓ : Loc Cert.Dp.nD Cert.Dp.τ Cert.Dp.sig) → Buf (Elt Bits) ℓ) : Prop :=
  True

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1)
      ∧ r.2.mem ((c.tc : Thread Cert.Dq.nD Cert.Dq.τ).loc Cert.Dq.main_arg2) = m ((c.tc : Thread Cert.Dq.nD Cert.Dq.τ).loc Cert.Dq.main_arg2)
      ∧ r.2.mem ((c.tc : Thread Cert.Dq.nD Cert.Dq.τ).loc Cert.Dq.main_arg3) = m ((c.tc : Thread Cert.Dq.nD Cert.Dq.τ).loc Cert.Dq.main_arg3))
      ∧ r.2.sem = fun _ => 0)

def quiescent_DqIdeal [hDqIdeal : Cert.DqIdeal.Facts] : Prop :=
  ∀ (m : (ℓ : Loc Cert.DqIdeal.nD Cert.DqIdeal.τ Cert.DqIdeal.sig) → Buf (Elt Ideal) ℓ) (g : Dev Cert.DqIdeal.nD → PrngReg), Pre_DqIdeal m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
      ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ r.2.sem = fun _ => 0)

def quiescent_DqRefIdeal [hDqRefIdeal : Cert.DqRefIdeal.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1)
      ∧ r.2.mem ((c.tc : Thread Cert.DqRefIdeal.nD Cert.DqRefIdeal.τ).loc Cert.DqRefIdeal.main_arg2) = m ((c.tc : Thread Cert.DqRefIdeal.nD Cert.DqRefIdeal.τ).loc Cert.DqRefIdeal.main_arg2)
      ∧ r.2.mem ((c.tc : Thread Cert.DqRefIdeal.nD Cert.DqRefIdeal.τ).loc Cert.DqRefIdeal.main_arg3) = m ((c.tc : Thread Cert.DqRefIdeal.nD Cert.DqRefIdeal.τ).loc Cert.DqRefIdeal.main_arg3))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3))
      ∧ r.2.sem = fun _ => 0)

def quiescent_LogitsRefIdeal [hLogitsRefIdeal : Cert.LogitsRefIdeal.Facts] : Prop :=
  ∀ (m : (ℓ : Loc Cert.LogitsRefIdeal.nD Cert.LogitsRefIdeal.τ Cert.LogitsRefIdeal.sig) → Buf (Elt Ideal) ℓ) (g : Dev Cert.LogitsRefIdeal.nD → PrngReg), Pre_LogitsRefIdeal m →
    θ_run (Cert.LogitsRefIdeal.defs (F := Ideal)) (onTc (τ := Cert.LogitsRefIdeal.τ) (Cert.LogitsRefIdeal.main (F := Ideal))) ⟨m, fun _ => 0, g⟩ (fun r => (∀ c : Dev Cert.LogitsRefIdeal.nD,
      r.2.mem ((c.tc : Thread Cert.LogitsRefIdeal.nD Cert.LogitsRefIdeal.τ).loc Cert.LogitsRefIdeal.main_arg0) = m ((c.tc : Thread Cert.LogitsRefIdeal.nD Cert.LogitsRefIdeal.τ).loc Cert.LogitsRefIdeal.main_arg0)
      ∧ r.2.mem ((c.tc : Thread Cert.LogitsRefIdeal.nD Cert.LogitsRefIdeal.τ).loc Cert.LogitsRefIdeal.main_arg1) = m ((c.tc : Thread Cert.LogitsRefIdeal.nD Cert.LogitsRefIdeal.τ).loc Cert.LogitsRefIdeal.main_arg1)
      ∧ r.2.mem ((c.tc : Thread Cert.LogitsRefIdeal.nD Cert.LogitsRefIdeal.τ).loc Cert.LogitsRefIdeal.main_arg2) = m ((c.tc : Thread Cert.LogitsRefIdeal.nD Cert.LogitsRefIdeal.τ).loc Cert.LogitsRefIdeal.main_arg2)
      ∧ r.2.mem ((c.tc : Thread Cert.LogitsRefIdeal.nD Cert.LogitsRefIdeal.τ).loc Cert.LogitsRefIdeal.main_arg3) = m ((c.tc : Thread Cert.LogitsRefIdeal.nD Cert.LogitsRefIdeal.τ).loc Cert.LogitsRefIdeal.main_arg3))
      ∧ r.2.sem = fun _ => 0)

def quiescent_Dp [hDp : Cert.Dp.Facts] : Prop :=
  ∀ (m : (ℓ : Loc Cert.Dp.nD Cert.Dp.τ Cert.Dp.sig) → Buf (Elt Bits) ℓ) (g : Dev Cert.Dp.nD → PrngReg), Pre_Dp m →
    θ_run (Cert.Dp.defs (F := Bits)) (onTc (τ := Cert.Dp.τ) (Cert.Dp.main (F := Bits))) ⟨m, fun _ => 0, g⟩ (fun r => (∀ c : Dev Cert.Dp.nD,
      r.2.mem ((c.tc : Thread Cert.Dp.nD Cert.Dp.τ).loc Cert.Dp.main_arg0) = m ((c.tc : Thread Cert.Dp.nD Cert.Dp.τ).loc Cert.Dp.main_arg0)
      ∧ r.2.mem ((c.tc : Thread Cert.Dp.nD Cert.Dp.τ).loc Cert.Dp.main_arg1) = m ((c.tc : Thread Cert.Dp.nD Cert.Dp.τ).loc Cert.Dp.main_arg1)
      ∧ r.2.mem ((c.tc : Thread Cert.Dp.nD Cert.Dp.τ).loc Cert.Dp.main_arg2) = m ((c.tc : Thread Cert.Dp.nD Cert.Dp.τ).loc Cert.Dp.main_arg2)
      ∧ r.2.mem ((c.tc : Thread Cert.Dp.nD Cert.Dp.τ).loc Cert.Dp.main_arg3) = m ((c.tc : Thread Cert.Dp.nD Cert.Dp.τ).loc Cert.Dp.main_arg3)
      ∧ r.2.mem ((c.tc : Thread Cert.Dp.nD Cert.Dp.τ).loc Cert.Dp.main_arg4) = m ((c.tc : Thread Cert.Dp.nD Cert.Dp.τ).loc Cert.Dp.main_arg4))
      ∧ r.2.sem = fun _ => 0)

def preserves_Dq_DqIdeal : Prop :=
  True

def algebraic_DqIdeal_DqRefIdeal [hDqIdeal : Cert.DqIdeal.Facts] [hDqRefIdeal : Cert.DqRefIdeal.Facts] : Prop :=
  ∀ (m : (ℓ : Loc Cert.DqIdeal.nD Cert.DqIdeal.τ Cert.DqIdeal.sig) → Buf (Elt Ideal) ℓ) (g : Dev Cert.DqIdeal.nD → PrngReg)
    (m' : (ℓ : Loc Cert.DqRefIdeal.nD Cert.DqRefIdeal.τ Cert.DqRefIdeal.sig) → Buf (Elt Ideal) ℓ) (g' : Dev Cert.DqRefIdeal.nD → PrngReg), Pre_DqIdeal m →
    (∀ c : Dev Cert.DqIdeal.nD,
      m' ((c.tc : Thread Cert.DqRefIdeal.nD Cert.DqRefIdeal.τ).loc Cert.DqRefIdeal.main_arg0) = m ((c.tc : Thread Cert.DqIdeal.nD Cert.DqIdeal.τ).loc Cert.DqIdeal.main_arg0)
      ∧ m' ((c.tc : Thread Cert.DqRefIdeal.nD Cert.DqRefIdeal.τ).loc Cert.DqRefIdeal.main_arg1) = m ((c.tc : Thread Cert.DqIdeal.nD Cert.DqIdeal.τ).loc Cert.DqIdeal.main_arg1)
      ∧ m' ((c.tc : Thread Cert.DqRefIdeal.nD Cert.DqRefIdeal.τ).loc Cert.DqRefIdeal.main_arg2) = m ((c.tc : Thread Cert.DqIdeal.nD Cert.DqIdeal.τ).loc Cert.DqIdeal.main_arg2)
      ∧ m' ((c.tc : Thread Cert.DqRefIdeal.nD Cert.DqRefIdeal.τ).loc Cert.DqRefIdeal.main_arg3) = m ((c.tc : Thread Cert.DqIdeal.nD Cert.DqIdeal.τ).loc Cert.DqIdeal.main_arg3)) →
    ∃ (v0 : (c : Dev Cert.DqIdeal.nD) → Buf (Elt Ideal) ((c.tc : Thread Cert.DqIdeal.nD Cert.DqIdeal.τ).loc Cert.DqIdeal.main_v1)),
      θ_run (Cert.DqIdeal.defs (F := Ideal)) (onTc (τ := Cert.DqIdeal.τ) (Cert.DqIdeal.main (F := Ideal))) ⟨m, fun _ => 0, g⟩ (fun r => ∀ c : Dev Cert.DqIdeal.nD,
          r.2.mem ((c.tc : Thread Cert.DqIdeal.nD Cert.DqIdeal.τ).loc Cert.DqIdeal.main_v1) = v0 c
          ∧ r.2.mem ((c.tc : Thread Cert.DqIdeal.nD Cert.DqIdeal.τ).loc Cert.DqIdeal.main_arg0) = m ((c.tc : Thread Cert.DqIdeal.nD Cert.DqIdeal.τ).loc Cert.DqIdeal.main_arg0)
          ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
          ∧ r.2.mem ((c.tc : Thread Cert.DqIdeal.nD Cert.DqIdeal.τ).loc Cert.DqIdeal.main_arg2) = m ((c.tc : Thread Cert.DqIdeal.nD Cert.DqIdeal.τ).loc Cert.DqIdeal.main_arg2)
          ∧ r.2.mem ((c.tc : Thread Cert.DqIdeal.nD Cert.DqIdeal.τ).loc Cert.DqIdeal.main_arg3) = m ((c.tc : Thread Cert.DqIdeal.nD Cert.DqIdeal.τ).loc Cert.DqIdeal.main_arg3))
      ∧ θ_run (Cert.DqRefIdeal.defs (F := Ideal)) (onTc (τ := Cert.DqRefIdeal.τ) (Cert.DqRefIdeal.main (F := Ideal))) ⟨m', fun _ => 0, g'⟩ (fun r => ∀ c : Dev Cert.DqRefIdeal.nD,
          r.2.mem ((c.tc : Thread Cert.DqRefIdeal.nD Cert.DqRefIdeal.τ).loc Cert.DqRefIdeal.main_v5) = v0 c
          ∧ r.2.mem ((c.tc : Thread Cert.DqRefIdeal.nD Cert.DqRefIdeal.τ).loc Cert.DqRefIdeal.main_arg0) = m' ((c.tc : Thread Cert.DqRefIdeal.nD Cert.DqRefIdeal.τ).loc Cert.DqRefIdeal.main_arg0)
          ∧ r.2.mem ((c.tc : Thread Cert.DqRefIdeal.nD Cert.DqRefIdeal.τ).loc Cert.DqRefIdeal.main_arg1) = m' ((c.tc : Thread Cert.DqRefIdeal.nD Cert.DqRefIdeal.τ).loc Cert.DqRefIdeal.main_arg1)
          ∧ r.2.mem ((c.tc : Thread Cert.DqRefIdeal.nD Cert.DqRefIdeal.τ).loc Cert.DqRefIdeal.main_arg2) = m' ((c.tc : Thread Cert.DqRefIdeal.nD Cert.DqRefIdeal.τ).loc Cert.DqRefIdeal.main_arg2)
          ∧ r.2.mem ((c.tc : Thread Cert.DqRefIdeal.nD Cert.DqRefIdeal.τ).loc Cert.DqRefIdeal.main_arg3) = m' ((c.tc : Thread Cert.DqRefIdeal.nD Cert.DqRefIdeal.τ).loc Cert.DqRefIdeal.main_arg3))

def preserves_Logits_LogitsIdeal : Prop :=
  True

def algebraic_LogitsIdeal_LogitsRefIdeal [hLogitsIdeal : Cert.LogitsIdeal.Facts] [hLogitsRefIdeal : Cert.LogitsRefIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsRefIdeal.nD Cert.LogitsRefIdeal.τ Cert.LogitsRefIdeal.sig) → Buf (Elt Ideal) ℓ) (g' : Dev Cert.LogitsRefIdeal.nD → PrngReg), Pre_LogitsIdeal m →
    (∀ c : Dev Cert.LogitsIdeal.nD,
      m' ((c.tc : Thread Cert.LogitsRefIdeal.nD Cert.LogitsRefIdeal.τ).loc Cert.LogitsRefIdeal.main_arg0) = m ((c.tc : Thread Cert.LogitsIdeal.nD Cert.LogitsIdeal.τ).loc Cert.LogitsIdeal.main_arg0)
      ∧ m' ((c.tc : Thread Cert.LogitsRefIdeal.nD Cert.LogitsRefIdeal.τ).loc Cert.LogitsRefIdeal.main_arg1) = m ((c.tc : Thread Cert.LogitsIdeal.nD Cert.LogitsIdeal.τ).loc Cert.LogitsIdeal.main_arg1)
      ∧ m' ((c.tc : Thread Cert.LogitsRefIdeal.nD Cert.LogitsRefIdeal.τ).loc Cert.LogitsRefIdeal.main_arg2) = m ((c.tc : Thread Cert.LogitsIdeal.nD Cert.LogitsIdeal.τ).loc Cert.LogitsIdeal.main_arg2)
      ∧ m' ((c.tc : Thread Cert.LogitsRefIdeal.nD Cert.LogitsRefIdeal.τ).loc Cert.LogitsRefIdeal.main_arg3) = m ((c.tc : Thread Cert.LogitsIdeal.nD Cert.LogitsIdeal.τ).loc Cert.LogitsIdeal.main_arg3)) →
    ∃ (v0 : (c : Dev Cert.LogitsIdeal.nD) → Buf (Elt Ideal) ((c.tc : Thread Cert.LogitsIdeal.nD Cert.LogitsIdeal.τ).loc Cert.LogitsIdeal.main_v2_0)) (v1 : (c : Dev Cert.LogitsIdeal.nD) → Buf (Elt Ideal) ((c.tc : Thread Cert.LogitsIdeal.nD Cert.LogitsIdeal.τ).loc Cert.LogitsIdeal.main_v2_1)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v2_0) = v0 c
          ∧ r.2.mem ((c.tc : Thread Cert.LogitsIdeal.nD Cert.LogitsIdeal.τ).loc Cert.LogitsIdeal.main_v2_1) = v1 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3))
      ∧ θ_run (Cert.LogitsRefIdeal.defs (F := Ideal)) (onTc (τ := Cert.LogitsRefIdeal.τ) (Cert.LogitsRefIdeal.main (F := Ideal))) ⟨m', fun _ => 0, g'⟩ (fun r => ∀ c : Dev Cert.LogitsRefIdeal.nD,
          r.2.mem ((c.tc : Thread Cert.LogitsRefIdeal.nD Cert.LogitsRefIdeal.τ).loc Cert.LogitsRefIdeal.main_v8) = v0 c
          ∧ r.2.mem ((c.tc : Thread Cert.LogitsRefIdeal.nD Cert.LogitsRefIdeal.τ).loc Cert.LogitsRefIdeal.main_v18) = v1 c
          ∧ r.2.mem ((c.tc : Thread Cert.LogitsRefIdeal.nD Cert.LogitsRefIdeal.τ).loc Cert.LogitsRefIdeal.main_arg0) = m' ((c.tc : Thread Cert.LogitsRefIdeal.nD Cert.LogitsRefIdeal.τ).loc Cert.LogitsRefIdeal.main_arg0)
          ∧ r.2.mem ((c.tc : Thread Cert.LogitsRefIdeal.nD Cert.LogitsRefIdeal.τ).loc Cert.LogitsRefIdeal.main_arg1) = m' ((c.tc : Thread Cert.LogitsRefIdeal.nD Cert.LogitsRefIdeal.τ).loc Cert.LogitsRefIdeal.main_arg1)
          ∧ r.2.mem ((c.tc : Thread Cert.LogitsRefIdeal.nD Cert.LogitsRefIdeal.τ).loc Cert.LogitsRefIdeal.main_arg2) = m' ((c.tc : Thread Cert.LogitsRefIdeal.nD Cert.LogitsRefIdeal.τ).loc Cert.LogitsRefIdeal.main_arg2)
          ∧ r.2.mem ((c.tc : Thread Cert.LogitsRefIdeal.nD Cert.LogitsRefIdeal.τ).loc Cert.LogitsRefIdeal.main_arg3) = m' ((c.tc : Thread Cert.LogitsRefIdeal.nD Cert.LogitsRefIdeal.τ).loc Cert.LogitsRefIdeal.main_arg3))

def Claim : Prop :=
  ∃ (hDq : Cert.Dq.Facts) (hDqIdeal : Cert.DqIdeal.Facts) (hDqRefIdeal : Cert.DqRefIdeal.Facts) (hLogits : Cert.Logits.Facts) (hLogitsIdeal : Cert.LogitsIdeal.Facts) (hLogitsRefIdeal : Cert.LogitsRefIdeal.Facts) (hDp : Cert.Dp.Facts),
    quiescent_Dq (hDq := hDq)
    ∧ quiescent_DqIdeal (hDqIdeal := hDqIdeal)
    ∧ quiescent_DqRefIdeal (hDqRefIdeal := hDqRefIdeal)
    ∧ quiescent_Logits (hLogits := hLogits)
    ∧ quiescent_LogitsIdeal (hLogitsIdeal := hLogitsIdeal)
    ∧ quiescent_LogitsRefIdeal (hLogitsRefIdeal := hLogitsRefIdeal)
    ∧ quiescent_Dp (hDp := hDp)
    ∧ preserves_Dq_DqIdeal
    ∧ algebraic_DqIdeal_DqRefIdeal (hDqIdeal := hDqIdeal) (hDqRefIdeal := hDqRefIdeal)
    ∧ preserves_Logits_LogitsIdeal
    ∧ algebraic_LogitsIdeal_LogitsRefIdeal (hLogitsIdeal := hLogitsIdeal) (hLogitsRefIdeal := hLogitsRefIdeal)
-- ==== Dq.lean ====
abbrev S2x2048x8192 : Shape := ⟨3, ![2, 2048, 8192]⟩
abbrev S2x1x8192 : Shape := ⟨3, ![2, 1, 8192]⟩
abbrev S2x8192x3072 : Shape := ⟨3, ![2, 8192, 3072]⟩
abbrev S2x8192 : Shape := ⟨2, ![2, 8192]⟩
abbrev S2x2048x3072 : Shape := ⟨3, ![2, 2048, 3072]⟩
abbrev S1x2048x1024 : Shape := ⟨3, ![1, 2048, 1024]⟩
abbrev S1x1x1024 : Shape := ⟨3, ![1, 1, 1024]⟩
abbrev S1x1024x1536 : Shape := ⟨3, ![1, 1024, 1536]⟩
abbrev S1x2048x1536 : Shape := ⟨3, ![1, 2048, 1536]⟩
abbrev S2048x1536 : Shape := ⟨2, ![2048, 1536]⟩
abbrev S2048x1024 : Shape := ⟨2, ![2048, 1024]⟩
abbrev S1024x1536 : Shape := ⟨2, ![1024, 1536]⟩
abbrev S1x128x1024 : Shape := ⟨3, ![1, 128, 1024]⟩
abbrev S128x1024 : Shape := ⟨2, ![128, 1024]⟩
abbrev S1x1024 : Shape := ⟨2, ![1, 1024]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩

abbrev nBuf : Space → Nat
  | .hbm => 6
  | .vmem => 13
  | .smem => 0
  | _ => 0

abbrev bufTy : (tb : Table) → Fin (tcTables nBuf tb) → BufTy
  | .hbm, ⟨0, _⟩ => ⟨S2x2048x8192, .fp8e5m2⟩
  | .hbm, ⟨1, _⟩ => ⟨S2x1x8192, .f32⟩
  | .hbm, ⟨2, _⟩ => ⟨S2x8192x3072, .fp8e4m3⟩
  | .hbm, ⟨3, _⟩ => ⟨S2x8192, .f32⟩
  | .hbm, ⟨4, _⟩ => ⟨S2x1x8192, .f32⟩
  | .hbm, ⟨5, _⟩ => ⟨S2x2048x3072, .bf16⟩
  | .local _ .vmem, ⟨0, _⟩ => ⟨S1x2048x1024, .fp8e5m2⟩
  | .local _ .vmem, ⟨1, _⟩ => ⟨S1x2048x1024, .fp8e5m2⟩
  | .local _ .vmem, ⟨2, _⟩ => ⟨S1x1x1024, .f32⟩
  | .local _ .vmem, ⟨3, _⟩ => ⟨S1x1x1024, .f32⟩
  | .local _ .vmem, ⟨4, _⟩ => ⟨S1x1024x1536, .fp8e4m3⟩
  | .local _ .vmem, ⟨5, _⟩ => ⟨S1x1024x1536, .fp8e4m3⟩
  | .local _ .vmem, ⟨6, _⟩ => ⟨S1x1x1024, .f32⟩
  | .local _ .vmem, ⟨7, _⟩ => ⟨S1x1x1024, .f32⟩
  | .local _ .vmem, ⟨8, _⟩ => ⟨S1x2048x1536, .bf16⟩
  | .local _ .vmem, ⟨9, _⟩ => ⟨S1x2048x1536, .bf16⟩
  | .local _ .vmem, ⟨10, _⟩ => ⟨S2048x1536, .f32⟩
  | .local _ .vmem, ⟨11, _⟩ => ⟨S2048x1024, .bf16⟩
  | .local _ .vmem, ⟨12, _⟩ => ⟨S1024x1536, .bf16⟩
  | _, _ => ⟨S2x2048x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v907 : BitVec 1 := Scalar.cmpi .eq arg2 c7_i32
  let v908 : BitVec 32 := Scalar.extui v907
  let c0_i32_625 : BitVec 32 := 0#32
  let v909 : BitVec 1 := Scalar.cmpi .ne v908 c0_i32_625
  v909

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DqRefIdeal.lean ====
abbrev S2x2048x8192 : Shape := ⟨3, ![2, 2048, 8192]⟩
abbrev S2x1x8192 : Shape := ⟨3, ![2, 1, 8192]⟩
abbrev S2x8192x3072 : Shape := ⟨3, ![2, 8192, 3072]⟩
abbrev S2x8192 : Shape := ⟨2, ![2, 8192]⟩
abbrev S2x8192x1 : Shape := ⟨3, ![2, 8192, 1]⟩
abbrev S2x2048x3072 : Shape := ⟨3, ![2, 2048, 3072]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S2x2048x8192, .fp8e5m2⟩
  | .hbm, ⟨1, _⟩ => ⟨S2x1x8192, .f32⟩
  | .hbm, ⟨2, _⟩ => ⟨S2x8192x3072, .fp8e4m3⟩
  | .hbm, ⟨3, _⟩ => ⟨S2x8192, .f32⟩
  | .hbm, ⟨4, _⟩ => ⟨S2x8192x1, .f32⟩
  | .hbm, ⟨5, _⟩ => ⟨S2x2048x8192, .bf16⟩
  | .hbm, ⟨6, _⟩ => ⟨S2x8192x3072, .bf16⟩
  | .hbm, ⟨7, _⟩ => ⟨S2x2048x3072, .f32⟩
  | .hbm, ⟨8, _⟩ => ⟨S_, .f32⟩
  | .hbm, ⟨9, _⟩ => ⟨S2x2048x3072, .f32⟩
  | .hbm, ⟨10, _⟩ => ⟨S2x2048x3072, .f32⟩
  | .hbm, ⟨11, _⟩ => ⟨S2x2048x3072, .bf16⟩
  | .local _ .vmem, ⟨0, _⟩ => ⟨S2x2048x8192, .fp8e5m2⟩
  | .local _ .vmem, ⟨1, _⟩ => ⟨S2x1x8192, .f32⟩
  | .local _ .vmem, ⟨2, _⟩ => ⟨S2x8192x3072, .fp8e4m3⟩
  | .local _ .vmem, ⟨3, _⟩ => ⟨S2x8192x1, .f32⟩
  | .local _ .vmem, ⟨4, _⟩ => ⟨S2x2048x8192, .bf16⟩
  | .local _ .vmem, ⟨5, _⟩ => ⟨S2x8192x3072, .bf16⟩
  | _, _ => ⟨S2x2048x8192, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x2048x8192 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Logits.lean ====
abbrev S2x2048x3072 : Shape := ⟨3, ![2, 2048, 3072]⟩
abbrev S2x2048 : Shape := ⟨2, ![2, 2048]⟩
abbrev S2x8192x3072 : Shape := ⟨3, ![2, 8192, 3072]⟩
abbrev S2x8192 : Shape := ⟨2, ![2, 8192]⟩
abbrev S2x1x2048 : Shape := ⟨3, ![2, 1, 2048]⟩
abbrev S2x1x8192 : Shape := ⟨3, ![2, 1, 8192]⟩
abbrev S2x2048x8192 : Shape := ⟨3, ![2, 2048, 8192]⟩
abbrev S1x2048x3072 : Shape := ⟨3, ![1, 2048, 3072]⟩
abbrev S1x1x2048 : Shape := ⟨3, ![1, 1, 2048]⟩
abbrev S1x512x3072 : Shape := ⟨3, ![1, 512, 3072]⟩
abbrev S1x1x512 : Shape := ⟨3, ![1, 1, 512]⟩
abbrev S1x2048x512 : Shape := ⟨3, ![1, 2048, 512]⟩
abbrev S2048x128 : Shape := ⟨2, ![2048, 128]⟩
abbrev S1x2048 : Shape := ⟨2, ![1, 2048]⟩
abbrev S128x2048 : Shape := ⟨2, ![128, 2048]⟩
abbrev S512x3072 : Shape := ⟨2, ![512, 3072]⟩
abbrev S512x512 : Shape := ⟨2, ![512, 512]⟩
abbrev S512x128 : Shape := ⟨2, ![512, 128]⟩
abbrev S1x1x128 : Shape := ⟨3, ![1, 1, 128]⟩
abbrev S1x128 : Shape := ⟨2, ![1, 128]⟩
abbrev S1x512x128 : Shape := ⟨3, ![1, 512, 128]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x3072, .fp8e4m3⟩
  | .hbm, ⟨1, _⟩ => ⟨S2x2048, .f32⟩
  | .hbm, ⟨2, _⟩ => ⟨S2x8192x3072, .fp8e4m3⟩
  | .hbm, ⟨3, _⟩ => ⟨S2x8192, .f32⟩
  | .hbm, ⟨4, _⟩ => ⟨S2x1x2048, .f32⟩
  | .hbm, ⟨5, _⟩ => ⟨S2x1x8192, .f32⟩
  | .hbm, ⟨6, _⟩ => ⟨S2x2048x8192, .f32⟩
  | .hbm, ⟨7, _⟩ => ⟨S2x1x2048, .f32⟩
  | .local _ .vmem, ⟨0, _⟩ => ⟨S1x2048x3072, .fp8e4m3⟩
  | .local _ .vmem, ⟨1, _⟩ => ⟨S1x2048x3072, .fp8e4m3⟩
  | .local _ .vmem, ⟨2, _⟩ => ⟨S1x1x2048, .f32⟩
  | .local _ .vmem, ⟨3, _⟩ => ⟨S1x1x2048, .f32⟩
  | .local _ .vmem, ⟨4, _⟩ => ⟨S1x512x3072, .fp8e4m3⟩
  | .local _ .vmem, ⟨5, _⟩ => ⟨S1x512x3072, .fp8e4m3⟩
  | .local _ .vmem, ⟨6, _⟩ => ⟨S1x1x512, .f32⟩
  | .local _ .vmem, ⟨7, _⟩ => ⟨S1x1x512, .f32⟩
  | .local _ .vmem, ⟨8, _⟩ => ⟨S1x2048x512, .f32⟩
  | .local _ .vmem, ⟨9, _⟩ => ⟨S1x2048x512, .f32⟩
  | .local _ .vmem, ⟨10, _⟩ => ⟨S1x1x2048, .f32⟩
  | .local _ .vmem, ⟨11, _⟩ => ⟨S1x1x2048, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | _, _ => ⟨S2x2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v273 : BitVec 1 := Scalar.cmpi .eq arg1 c15_i32
  let v274 : BitVec 32 := Scalar.extui v273
  let c0_i32_148 : BitVec 32 := 0#32
  let v275 : BitVec 1 := Scalar.cmpi .ne v274 c0_i32_148
  v275

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x3072 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== LogitsRefIdeal.lean ====
abbrev S2x2048x3072 : Shape := ⟨3, ![2, 2048, 3072]⟩
abbrev S2x2048 : Shape := ⟨2, ![2, 2048]⟩
abbrev S2x8192x3072 : Shape := ⟨3, ![2, 8192, 3072]⟩
abbrev S2x8192 : Shape := ⟨2, ![2, 8192]⟩
abbrev S2x2048x8192 : Shape := ⟨3, ![2, 2048, 8192]⟩
abbrev S2x2048x1 : Shape := ⟨3, ![2, 2048, 1]⟩
abbrev S2x1x8192 : Shape := ⟨3, ![2, 1, 8192]⟩
abbrev S_ : Shape := ⟨0, ![]⟩
abbrev S2x1x2048 : Shape := ⟨3, ![2, 1, 2048]⟩

abbrev nBuf : Space → Nat
  | .hbm => 26
  | .vmem => 3
  | .smem => 0
  | _ => 0

abbrev bufTy : (tb : Table) → Fin (tcTables nBuf tb) → BufTy
  | .hbm, ⟨0, _⟩ => ⟨S2x2048x3072, .fp8e4m3⟩
  | .hbm, ⟨1, _⟩ => ⟨S2x2048, .f32⟩
  | .hbm, ⟨2, _⟩ => ⟨S2x8192x3072, .fp8e4m3⟩
  | .hbm, ⟨3, _⟩ => ⟨S2x8192, .f32⟩
  | .hbm, ⟨4, _⟩ => ⟨S2x2048x8192, .f32⟩
  | .hbm, ⟨5, _⟩ => ⟨S2x2048x1, .f32⟩
  | .hbm, ⟨6, _⟩ => ⟨S2x1x8192, .f32⟩
  | .hbm, ⟨7, _⟩ => ⟨S2x2048x8192, .f32⟩
  | .hbm, ⟨8, _⟩ => ⟨S2x2048x8192, .f32⟩
  | .hbm, ⟨9, _⟩ => ⟨S2x2048x8192, .f32⟩
  | .hbm, ⟨10, _⟩ => ⟨S2x2048x8192, .f32⟩
  | .hbm, ⟨11, _⟩ => ⟨S_, .f32⟩
  | .hbm, ⟨12, _⟩ => ⟨S2x2048x8192, .f32⟩
  | .hbm, ⟨13, _⟩ => ⟨S2x2048x8192, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S2x2048, .f32⟩
  | .hbm, ⟨18, _⟩ => ⟨S2x2048x8192, .f32⟩
  | .hbm, ⟨19, _⟩ => ⟨S2x2048x8192, .f32⟩
  | .hbm, ⟨20, _⟩ => ⟨S2x2048x8192, .f32⟩
  | .hbm, ⟨21, _⟩ => ⟨S_, .f32⟩
  | .hbm, ⟨22, _⟩ => ⟨S2x2048, .f32⟩
  | .hbm, ⟨23, _⟩ => ⟨S2x2048, .f32⟩
  | .hbm, ⟨24, _⟩ => ⟨S2x2048, .f32⟩
  | .hbm, ⟨25, _⟩ => ⟨S2x1x2048, .f32⟩
  | .local _ .vmem, ⟨0, _⟩ => ⟨S2x2048x3072, .fp8e4m3⟩
  | .local _ .vmem, ⟨1, _⟩ => ⟨S2x8192x3072, .fp8e4m3⟩
  | .local _ .vmem, ⟨2, _⟩ => ⟨S2x2048x8192, .f32⟩
  | _, _ => ⟨S2x2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Dp.lean ====
abbrev S2x2048x8192 : Shape := ⟨3, ![2, 2048, 8192]⟩
abbrev S2x1x2048 : Shape := ⟨3, ![2, 1, 2048]⟩
abbrev S2x2048 : Shape := ⟨2, ![2, 2048]⟩
abbrev S2x2048x3072 : Shape := ⟨3, ![2, 2048, 3072]⟩
abbrev S2x8192x3072 : Shape := ⟨3, ![2, 8192, 3072]⟩
abbrev S2x1x8192 : Shape := ⟨3, ![2, 1, 8192]⟩
abbrev S1x2048x512 : Shape := ⟨3, ![1, 2048, 512]⟩
abbrev S1x1x2048 : Shape := ⟨3, ![1, 1, 2048]⟩
abbrev S1x2048x3072 : Shape := ⟨3, ![1, 2048, 3072]⟩
abbrev S1x512x3072 : Shape := ⟨3, ![1, 512, 3072]⟩
abbrev S1x1x512 : Shape := ⟨3, ![1, 1, 512]⟩
abbrev S2048x512 : Shape := ⟨2, ![2048, 512]⟩
abbrev S2x512x2048 : Shape := ⟨3, ![2, 512, 2048]⟩
abbrev S2048x3072 : Shape := ⟨2, ![2048, 3072]⟩
abbrev S2048x128 : Shape := ⟨2, ![2048, 128]⟩
abbrev S8x512 : Shape := ⟨2, ![8, 512]⟩
abbrev S2x512x128 : Shape := ⟨3, ![2, 512, 128]⟩
abbrev S1x2048 : Shape := ⟨2, ![1, 2048]⟩
abbrev S128x2048 : Shape := ⟨2, ![128, 2048]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S64x128 : Shape := ⟨2, ![64, 128]⟩
abbrev S1x64x128 : Shape := ⟨3, ![1, 64, 128]⟩
abbrev S8x8x128 : Shape := ⟨3, ![8, 8, 128]⟩
abbrev S8x128 : Shape := ⟨2, ![8, 128]⟩
abbrev S512 : Shape := ⟨1, ![512]⟩
abbrev S1x512 : Shape := ⟨2, ![1, 512]⟩
abbrev S128x512 : Shape := ⟨2, ![128, 512]⟩
abbrev S16x8x512 : Shape := ⟨3, ![16, 8, 512]⟩
abbrev S1x8x512 : Shape := ⟨3, ![1, 8, 512]⟩
abbrev S1x128x512 : Shape := ⟨3, ![1, 128, 512]⟩
abbrev S512x128 : Shape := ⟨2, ![512, 128]⟩
abbrev S1x512x128 : Shape := ⟨3, ![1, 512, 128]⟩
abbrev S1x512x2048 : Shape := ⟨3, ![1, 512, 2048]⟩
abbrev S512x2048 : Shape := ⟨2, ![512, 2048]⟩
abbrev S512x512 : Shape := ⟨2, ![512, 512]⟩
abbrev S2048 : Shape := ⟨1, ![2048]⟩

abbrev nBuf : Space → Nat
  | .hbm => 11
  | .vmem => 27
  | .smem => 0
  | _ => 0

abbrev bufTy : (tb : Table) → Fin (tcTables nBuf tb) → BufTy
  | .hbm, ⟨0, _⟩ => ⟨S2x2048x8192, .f32⟩
  | .hbm, ⟨1, _⟩ => ⟨S2x1x2048, .f32⟩
  | .hbm, ⟨2, _⟩ => ⟨S2x2048, .i32⟩
  | .hbm, ⟨3, _⟩ => ⟨S2x2048x3072, .fp8e4m3⟩
  | .hbm, ⟨4, _⟩ => ⟨S2x2048, .f32⟩
  | .hbm, ⟨5, _⟩ => ⟨S2x1x2048, .f32⟩
  | .hbm, ⟨6, _⟩ => ⟨S2x1x2048, .i32⟩
  | .hbm, ⟨7, _⟩ => ⟨S2x1x2048, .f32⟩
  | .hbm, ⟨8, _⟩ => ⟨S2x8192x3072, .bf16⟩
  | .hbm, ⟨9, _⟩ => ⟨S2x2048x8192, .fp8e5m2⟩
  | .hbm, ⟨10, _⟩ => ⟨S2x1x8192, .f32⟩
  | .local _ .vmem, ⟨0, _⟩ => ⟨S1x2048x512, .f32⟩
  | .local _ .vmem, ⟨1, _⟩ => ⟨S1x2048x512, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .i32⟩
  | .local _ .vmem, ⟨5, _⟩ => ⟨S1x1x2048, .i32⟩
  | .local _ .vmem, ⟨6, _⟩ => ⟨S1x2048x3072, .fp8e4m3⟩
  | .local _ .vmem, ⟨7, _⟩ => ⟨S1x2048x3072, .fp8e4m3⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x512x3072, .bf16⟩
  | .local _ .vmem, ⟨13, _⟩ => ⟨S1x512x3072, .bf16⟩
  | .local _ .vmem, ⟨14, _⟩ => ⟨S1x2048x512, .fp8e5m2⟩
  | .local _ .vmem, ⟨15, _⟩ => ⟨S1x2048x512, .fp8e5m2⟩
  | .local _ .vmem, ⟨16, _⟩ => ⟨S1x1x512, .f32⟩
  | .local _ .vmem, ⟨17, _⟩ => ⟨S1x1x512, .f32⟩
  | .local _ .vmem, ⟨18, _⟩ => ⟨S2048x512, .f32⟩
  | .local _ .vmem, ⟨19, _⟩ => ⟨S2x512x2048, .bf16⟩
  | .local _ .vmem, ⟨20, _⟩ => ⟨S2048x3072, .bf16⟩
  | .local _ .vmem, ⟨21, _⟩ => ⟨S2048x128, .f32⟩
  | .local _ .vmem, ⟨22, _⟩ => ⟨S2048x128, .i32⟩
  | .local _ .vmem, ⟨23, _⟩ => ⟨S2048x128, .f32⟩
  | .local _ .vmem, ⟨24, _⟩ => ⟨S8x512, .f32⟩
  | .local _ .vmem, ⟨25, _⟩ => ⟨S8x512, .f32⟩
  | .local _ .vmem, ⟨26, _⟩ => ⟨S2x512x128, .f32⟩
  | _, _ => ⟨S2x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [BitOps F]

abbrev grid0 : Pipeline.Grid := ⟨1, ![33], ![false]⟩

def k0_cond3 (i : grid0.Coords) : BitVec 1 :=
  let arg0 : BitVec 32 := BitVec.ofNat 32 (i 0).val
  let c0_i32_7 : BitVec 32 := 0#32
  let v16 : BitVec 1 := Scalar.cmpi .eq arg0 c0_i32_7
  let v17 : BitVec 32 := Scalar.extui v16
  let c0_i32_8 : BitVec 32 := 0#32
  let v18 : BitVec 1 := Scalar.cmpi .ne v17 c0_i32_8
  v18

def k0_off1 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3218 : Index := Scalar.indexCast v5
  let c0_1923 : Index := 0#32
  let c0_1924 : Index := 0#32
  ![v3218.toNat, 0, 0]
def k0_off2 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3239 : Index := Scalar.indexCast v5
  let c0_1934 : Index := 0#32
  let c128_1935 : Index := 128#32
  ![v3239.toNat, 0, 128]
def k0_off3 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3260 : Index := Scalar.indexCast v5
  let c0_1945 : Index := 0#32
  let c256_1946 : Index := 256#32
  ![v3260.toNat, 0, 256]
def k0_off4 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3281 : Index := Scalar.indexCast v5
  let c0_1956 : Index := 0#32
  let c384_1957 : Index := 384#32
  ![v3281.toNat, 0, 384]
def k0_off5 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3302 : Index := Scalar.indexCast v5
  let c0_1967 : Index := 0#32
  let c512_1968 : Index := 512#32
  ![v3302.toNat, 0, 512]
def k0_off6 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3323 : Index := Scalar.indexCast v5
  let c0_1978 : Index := 0#32
  let c640_1979 : Index := 640#32
  ![v3323.toNat, 0, 640]
def k0_off7 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3344 : Index := Scalar.indexCast v5
  let c0_1989 : Index := 0#32
  let c768_1990 : Index := 768#32
  ![v3344.toNat, 0, 768]
def k0_off8 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3365 : Index := Scalar.indexCast v5
  let c0_2000 : Index := 0#32
  let c896_2001 : Index := 896#32
  ![v3365.toNat, 0, 896]
def k0_off9 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3386 : Index := Scalar.indexCast v5
  let c0_2011 : Index := 0#32
  let c1024_2012 : Index := 1024#32
  ![v3386.toNat, 0, 1024]
def k0_off10 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3407 : Index := Scalar.indexCast v5
  let c0_2022 : Index := 0#32
  let c1152_2023 : Index := 1152#32
  ![v3407.toNat, 0, 1152]
def k0_off11 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3428 : Index := Scalar.indexCast v5
  let c0_2033 : Index := 0#32
  let c1280_2034 : Index := 1280#32
  ![v3428.toNat, 0, 1280]
def k0_off12 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3449 : Index := Scalar.indexCast v5
  let c0_2044 : Index := 0#32
  let c1408_2045 : Index := 1408#32
  ![v3449.toNat, 0, 1408]
def k0_off13 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3470 : Index := Scalar.indexCast v5
  let c0_2055 : Index := 0#32
  let c1536_2056 : Index := 1536#32
  ![v3470.toNat, 0, 1536]
def k0_off14 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3491 : Index := Scalar.indexCast v5
  let c0_2066 : Index := 0#32
  let c1664_2067 : Index := 1664#32
  ![v3491.toNat, 0, 1664]
def k0_off15 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3512 : Index := Scalar.indexCast v5
  let c0_2077 : Index := 0#32
  let c1792_2078 : Index := 1792#32
  ![v3512.toNat, 0, 1792]
def k0_off16 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3533 : Index := Scalar.indexCast v5
  let c0_2088 : Index := 0#32
  let c1920_2089 : Index := 1920#32
  ![v3533.toNat, 0, 1920]
def k0_off17 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3544 : Index := Scalar.indexCast v5
  let c0_2094 : Index := 0#32
  let c0_2095 : Index := 0#32
  ![v3544.toNat, 0, 0]
def k0_cond4 (i : grid0.Coords) : BitVec 1 :=
  let arg0 : BitVec 32 := BitVec.ofNat 32 (i 0).val
  let c0_i32_9 : BitVec 32 := 0#32
  let v19 : BitVec 1 := Scalar.cmpi .sgt arg0 c0_i32_9
  let v20 : BitVec 32 := Scalar.extui v19
  let c0_i32_10 : BitVec 32 := 0#32
  let v21 : BitVec 1 := Scalar.cmpi .ne v20 c0_i32_10
  v21

def k0_off18 (i : grid0.Coords) : Fin 3 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c2_i32 : BitVec 32 := 2#32
  let v4 : BitVec 32 := Scalar.remsi v2 c2_i32
  let v29 : Index := Scalar.indexCast v4
  let c0_13 : Index := 0#32
  let c0_14 : Index := 0#32
  ![v29.toNat, 0, 0]
def k0_off19 (i : grid0.Coords) : Fin 3 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c2_i32 : BitVec 32 := 2#32
  let v4 : BitVec 32 := Scalar.remsi v2 c2_i32
  let v35 : Index := Scalar.indexCast v4
  let c0_18 : Index := 0#32
  let c0_19 : Index := 0#32
  ![v35.toNat, 0, 0]
def k0_off20 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3382 : Index := Scalar.indexCast v5
  let c0_2023 : Index := 0#32
  let c0_2024 : Index := 0#32
  ![v3382.toNat, 0, 0]
def k0_off21 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3403 : Index := Scalar.indexCast v5
  let c0_2034 : Index := 0#32
  let c128_2035 : Index := 128#32
  ![v3403.toNat, 0, 128]
def k0_off22 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3424 : Index := Scalar.indexCast v5
  let c0_2045 : Index := 0#32
  let c256_2046 : Index := 256#32
  ![v3424.toNat, 0, 256]
def k0_off23 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3445 : Index := Scalar.indexCast v5
  let c0_2056 : Index := 0#32
  let c384_2057 : Index := 384#32
  ![v3445.toNat, 0, 384]
def k0_off24 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3466 : Index := Scalar.indexCast v5
  let c0_2067 : Index := 0#32
  let c512_2068 : Index := 512#32
  ![v3466.toNat, 0, 512]
def k0_off25 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3528 : Index := Scalar.indexCast v5
  let c0_2099 : Index := 0#32
  let c640_2100 : Index := 640#32
  ![v3528.toNat, 0, 640]
def k0_off26 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3549 : Index := Scalar.indexCast v5
  let c0_2110 : Index := 0#32
  let c768_2111 : Index := 768#32
  ![v3549.toNat, 0, 768]
def k0_off27 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3570 : Index := Scalar.indexCast v5
  let c0_2121 : Index := 0#32
  let c896_2122 : Index := 896#32
  ![v3570.toNat, 0, 896]
def k0_off28 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3591 : Index := Scalar.indexCast v5
  let c0_2132 : Index := 0#32
  let c1024_2133 : Index := 1024#32
  ![v3591.toNat, 0, 1024]
def k0_off29 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3612 : Index := Scalar.indexCast v5
  let c0_2143 : Index := 0#32
  let c1152_2144 : Index := 1152#32
  ![v3612.toNat, 0, 1152]
def k0_off30 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3674 : Index := Scalar.indexCast v5
  let c0_2175 : Index := 0#32
  let c1280_2176 : Index := 1280#32
  ![v3674.toNat, 0, 1280]
def k0_off31 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3695 : Index := Scalar.indexCast v5
  let c0_2186 : Index := 0#32
  let c1408_2187 : Index := 1408#32
  ![v3695.toNat, 0, 1408]
def k0_off32 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3716 : Index := Scalar.indexCast v5
  let c0_2197 : Index := 0#32
  let c1536_2198 : Index := 1536#32
  ![v3716.toNat, 0, 1536]
def k0_off33 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3737 : Index := Scalar.indexCast v5
  let c0_2208 : Index := 0#32
  let c1664_2209 : Index := 1664#32
  ![v3737.toNat, 0, 1664]
def k0_off34 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3758 : Index := Scalar.indexCast v5
  let c0_2219 : Index := 0#32
  let c1792_2220 : Index := 1792#32
  ![v3758.toNat, 0, 1792]
def k0_off35 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3779 : Index := Scalar.indexCast v5
  let c0_2230 : Index := 0#32
  let c1920_2231 : Index := 1920#32
  ![v3779.toNat, 0, 1920]
def k0_off36 (i : grid0.Coords) : Fin 3 → Nat :=
  let arg0 : BitVec 32 := BitVec.ofNat 32 (i 0).val
  let c31_i32 : BitVec 32 := 31#32
  let v0 : BitVec 32 := Scalar.minsi arg0 c31_i32
  let c2_i32_0 : BitVec 32 := 2#32
  let v5 : BitVec 32 := Scalar.remsi v0 c2_i32_0
  let v3790 : Index := Scalar.indexCast v5
  let c0_2236 : Index := 0#32
  let c0_2237 : Index := 0#32
  ![v3790.toNat, 0, 0]
def k0_cond5 (i : grid0.Coords) : BitVec 1 :=
  let arg0 : BitVec 32 := BitVec.ofNat 32 (i 0).val
  let c31_i32 : BitVec 32 := 31#32
  let v0 : BitVec 32 := Scalar.minsi arg0 c31_i32
  let c16_i32 : BitVec 32 := 16#32
  let v3 : BitVec 32 := Scalar.remsi v0 c16_i32
  let c15_i32 : BitVec 32 := 15#32
  let v22 : BitVec 1 := Scalar.cmpi .eq v3 c15_i32
  let v23 : BitVec 32 := Scalar.extui v22
  let c0_i32_11 : BitVec 32 := 0#32
  let v24 : BitVec 1 := Scalar.cmpi .ne v23 c0_i32_11
  v24

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_7 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x3072 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x512 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Proof.Dq.Block.lean ====
/- What one grid point of the `dq` call computes. Each point dequantises its strips of the two operands into scratch,
   row group by row group and tile by tile; `dlHat` and `pHat` are those scratch contents as plain products, and
   `step` is the accumulator plus the product of the two. -/
module

public import proofs.«01_k».proof.Proof.Gen.DqIdeal.Value
public import Idealize.ShloMosaic.Lib.ValueIdx
public import Idealize.ShloMosaic.Lib.MatmulPlain
public import Idealize.ShloMosaic.PureOps.Ideal.Laws

@[expose] public section
set_option maxRecDepth 16384
noncomputable section
namespace Cert.DqIdeal.Block
open Cert.DqIdeal Cert.DqIdeal.Gen Idealize.ShloMosaic Idealize.ShloMosaic.TcCoe Idealize.SL.Sem Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The strip of dl, dequantised: codes times the column's scale. -/
def dlHat (x0 : Vec Ideal S1x2048x1024 .fp8e5m2) (x1 : Vec Ideal S1x1x1024 .f32) : Vec Ideal S2048x1024 .bf16 :=
  fun j => (x0 (ix3 (0 : Fin 1) (j 0) (j 1)) : EReal) * x1 (ix3 (0 : Fin 1) (0 : Fin 1) (j 1))

/-- The strip of p, dequantised: codes times the row's scale. -/
def pHat (x2 : Vec Ideal S1x1024x1536 .fp8e4m3) (x3 : Vec Ideal S1x1x1024 .f32) : Vec Ideal S1024x1536 .bf16 :=
  fun j => (x2 (ix3 (0 : Fin 1) (j 0) (j 1)) : EReal) * x3 (ix3 (0 : Fin 1) (0 : Fin 1) (j 0))

/-- The accumulator after a point: what it held plus the strip's product. -/
def step (x0 : Vec Ideal S1x2048x1024 .fp8e5m2) (x1 : Vec Ideal S1x1x1024 .f32) (x2 : Vec Ideal S1x1024x1536 .fp8e4m3)
    (x3 : Vec Ideal S1x1x1024 .f32) (xs : Vec Ideal S2048x1536 .f32) : Vec Ideal S2048x1536 .f32 :=
  fun j => (xs j : EReal) + ∑ k : Fin 1024, (dlHat x0 x1 (ix2 (j 0) k) : EReal) * pHat x2 x3 (ix2 k (j 1))

/-- One row group of the dl strip, at an element. -/
theorem pay_dl (u : Vec Ideal S1x128x1024 .fp8e5m2) (v : Vec Ideal S1x1x1024 .f32) (a : Fin 128) (b : Fin 1024) :
    k0_pay4 (F := Ideal) u v (ix2 a b) = (u (ix3 (0 : Fin 1) a b) : EReal) * v (ix3 (0 : Fin 1) (0 : Fin 1) b) := by
  unfold k0_pay4
  rw [shapeCast_self]
  show (shapeCast S128x1024 u shapeCasts_S1x128x1024_S128x1024 (ix2 a b) : EReal) * broadcastTo S128x1024 (shapeCast S1x1024 v shapeCasts_S1x1x1024_S1x1024) broadcasts_S1x1024_S128x1024 (ix2 a b) = _
  rw [shapeCast_apply u _ (ix2 a b) (ix3 (0 : Fin 1) a b) (by simp [Shape.rowMajor_val_two, Shape.rowMajor_val_three]),
    broadcastTo_apply _ _ (ix2 a b) (ix2 (0 : Fin 1) b) (fun d => by match d with | ⟨0, _⟩ => rfl | ⟨1, _⟩ => rfl)]
  refine congrArg ((u (ix3 (0 : Fin 1) a b) : EReal) * ·) ?_
  show shapeCast S1x1024 v _ (ix2 (0 : Fin 1) b) = _
  exact shapeCast_apply v _ _ (ix3 (0 : Fin 1) (0 : Fin 1) b) (by simp [Shape.rowMajor_val_two, Shape.rowMajor_val_three])

/-- One tile of the p strip, at an element. -/
theorem pay_p (v : Vec Ideal S1x1x128 .f32) (u : Vec Ideal S1x128x128 .fp8e4m3) (a : Fin 128) (b : Fin 128) :
    k0_pay97 (F := Ideal) v u (ix2 a b) = (u (ix3 (0 : Fin 1) a b) : EReal) * v (ix3 (0 : Fin 1) (0 : Fin 1) a) := by
  unfold k0_pay97 k0_pay96
  rw [shapeCast_self]
  show (shapeCast S128x128 u shapeCasts_S1x128x128_S128x128 (ix2 a b) : EReal) * transpose S128x128 [1, 0] (broadcastTo S128x128 (shapeCast S1x128 (shapeCast S1x128 v shapeCasts_S1x1x128_S1x128) shapeCasts_S1x128_S1x128) broadcasts_S1x128_S128x128) transposes_S128x128_p1_0_S128x128 (ix2 a b) = _
  rw [shapeCast_apply u _ (ix2 a b) (ix3 (0 : Fin 1) a b) (by simp [Shape.rowMajor_val_two, Shape.rowMajor_val_three]),
    transpose_apply _ _ _ (ix2 a b) (ix2 b a) (fun d => by match d with | ⟨0, _⟩ => rfl | ⟨1, _⟩ => rfl),
    broadcastTo_apply _ _ (ix2 b a) (ix2 (0 : Fin 1) a) (fun d => by match d with | ⟨0, _⟩ => rfl | ⟨1, _⟩ => rfl), shapeCast_self]
  refine congrArg ((u (ix3 (0 : Fin 1) a b) : EReal) * ·) ?_
  exact shapeCast_apply v _ _ (ix3 (0 : Fin 1) (0 : Fin 1) a) (by simp [Shape.rowMajor_val_two, Shape.rowMajor_val_three])

section Tiles
variable (a3 : Memref sig .tc .vmem S1x2048x1024 .fp8e5m2) (h3 : a3.IsWhole)
  (a4 : Memref sig .tc .vmem S1x1x1024 .f32) (h4 : a4.IsWhole) (a5 : Memref sig .tc .vmem S1x1024x1536 .fp8e4m3) (h5 : a5.IsWhole)
  (a6 : Memref sig .tc .vmem S1x1x1024 .f32) (h6 : a6.IsWhole)
  (x0 : Vec Ideal S1x2048x1024 .fp8e5m2) (x1 : Vec Ideal S1x1x1024 .f32) (x2 : Vec Ideal S1x1024x1536 .fp8e4m3) (x3 : Vec Ideal S1x1x1024 .f32)

/-- The store of dl's row group `r`. -/
def dlTile (r : Fin 16) : View.Piece (Elt Ideal) S2048x1024 .bf16 :=
  ⟨Rect.unit ![128 * r.val, 0] S128x1024.size (fun a => by match a with | ⟨0, _⟩ => show 128 * r.val + 128 ≤ 2048; omega | ⟨1, _⟩ => exact le_refl 1024),
    k0_pay4 (View.readAt (Elt Ideal) a3.view (Rect.unit ![0, 128 * r.val, 0] S1x128x1024.size (fun a => by match a with | ⟨0, _⟩ => exact le_refl 1 | ⟨1, _⟩ => show 128 * r.val + 128 ≤ 2048; omega | ⟨2, _⟩ => exact le_refl 1024) : Rect S1x2048x1024).toLoadRect (h3.unread x0))
      (View.readAt (Elt Ideal) a4.view (Rect.unit ![0, 0, 0] S1x1x1024.size inb_S1x1x1024_S1x1x1024_0_0_0).toLoadRect (h4.unread x1))⟩

/-- The store of p's tile at row group `r`, column group `q`. -/
def pTile (r : Fin 8) (q : Fin 12) : View.Piece (Elt Ideal) S1024x1536 .bf16 :=
  ⟨Rect.unit ![128 * r.val, 128 * q.val] S128x128.size (fun a => by match a with | ⟨0, _⟩ => show 128 * r.val + 128 ≤ 1024; omega | ⟨1, _⟩ => show 128 * q.val + 128 ≤ 1536; omega),
    k0_pay97 (View.readAt (Elt Ideal) a6.view (Rect.unit ![0, 0, 128 * r.val] S1x1x128.size (fun a => by match a with | ⟨0, _⟩ => exact le_refl 1 | ⟨1, _⟩ => exact le_refl 1 | ⟨2, _⟩ => show 128 * r.val + 128 ≤ 1024; omega) : Rect S1x1x1024).toLoadRect (h6.unread x3))
      (View.readAt (Elt Ideal) a5.view (Rect.unit ![0, 128 * r.val, 128 * q.val] S1x128x128.size (fun a => by match a with | ⟨0, _⟩ => exact le_refl 1 | ⟨1, _⟩ => show 128 * r.val + 128 ≤ 1024; omega | ⟨2, _⟩ => show 128 * q.val + 128 ≤ 1536; omega) : Rect S1x1024x1536).toLoadRect (h5.unread x2))⟩

/-- The stores of dl's strip, last first. -/
def dlTiles : List (View.Piece (Elt Ideal) S2048x1024 .bf16) :=
  ([15, 14, 13, 12, 11, 10, 9, 8, 7, 6, 5, 4, 3, 2, 1, 0] : List (Fin 16)).map (dlTile a3 h3 a4 h4 x0 x1)

/-- The stores of p's strip, last first. -/
def pTiles : List (View.Piece (Elt Ideal) S1024x1536 .bf16) :=
  ([7, 6, 5, 4, 3, 2, 1, 0] : List (Fin 8)).flatMap fun r =>
    ([11, 10, 9, 8, 7, 6, 5, 4, 3, 2, 1, 0] : List (Fin 12)).map (pTile a5 h5 a6 h6 x2 x3 r)

theorem dlTile_eq (r : Fin 16) (x : S128x1024.Idx) :
    (dlTile a3 h3 a4 h4 x0 x1 r).2 x = dlHat x0 x1 ((dlTile a3 h3 a4 h4 x0 x1 r).1.emb x) := by
  obtain ⟨a, b, rfl⟩ : ∃ a b, x = ix2 a b := ⟨_, _, eq_ix2 x⟩
  unfold dlTile
  dsimp only
  simp only [View.readAt_eq_ld, h3.read_unread, h4.read_unread]
  rw [View.ld_unit_zero (S := S1x1x1024) hz3]
  refine (pay_dl _ _ a b).trans ?_
  have e : ((Rect.unit ![128 * r.val, 0] S128x1024.size (fun a => by match a with | ⟨0, _⟩ => show 128 * r.val + 128 ≤ 2048; omega | ⟨1, _⟩ => exact le_refl 1024) : Rect S2048x1024).emb (ix2 a b))
      = ix2 (⟨128 * r.val + a.val, by omega⟩ : Fin 2048) b := funext fun d => Fin.ext (by
    match d with
    | ⟨0, _⟩ => show 128 * r.val + 1 * a.val = 128 * r.val + a.val; omega
    | ⟨1, _⟩ => show 0 + 1 * b.val = b.val; omega)
  refine Eq.trans ?_ (congrArg (dlHat x0 x1) e).symm
  refine congrArg (· * (x1 (ix3 (0 : Fin 1) (0 : Fin 1) b) : EReal)) (congrArg x0 (funext fun d => Fin.ext ?_))
  match d with
  | ⟨0, _⟩ => rfl
  | ⟨1, _⟩ => show 128 * r.val + 1 * a.val = 128 * r.val + a.val; omega
  | ⟨2, _⟩ => show 0 + 1 * b.val = b.val; omega

theorem pTile_eq (r : Fin 8) (q : Fin 12) (x : S128x128.Idx) :
    (pTile a5 h5 a6 h6 x2 x3 r q).2 x = pHat x2 x3 ((pTile a5 h5 a6 h6 x2 x3 r q).1.emb x) := by
  obtain ⟨a, b, rfl⟩ : ∃ a b, x = ix2 a b := ⟨_, _, eq_ix2 x⟩
  unfold pTile
  dsimp only
  simp only [View.readAt_eq_ld, h5.read_unread, h6.read_unread]
  refine (pay_p _ _ a b).trans ?_
  have e : ((Rect.unit ![128 * r.val, 128 * q.val] S128x128.size (fun a => by match a with | ⟨0, _⟩ => show 128 * r.val + 128 ≤ 1024; omega | ⟨1, _⟩ => show 128 * q.val + 128 ≤ 1536; omega) : Rect S1024x1536).emb (ix2 a b))
      = ix2 (⟨128 * r.val + a.val, by omega⟩ : Fin 1024) (⟨128 * q.val + b.val, by omega⟩ : Fin 1536) := funext fun d => Fin.ext (by
    match d with
    | ⟨0, _⟩ => show 128 * r.val + 1 * a.val = 128 * r.val + a.val; omega
    | ⟨1, _⟩ => show 128 * q.val + 1 * b.val = 128 * q.val + b.val; omega)
  refine Eq.trans ?_ (congrArg (pHat x2 x3) e).symm
  refine congrArg₂ (fun p q : EReal => p * q) (congrArg x2 (funext fun d => Fin.ext ?_)) (congrArg x3 (funext fun d => Fin.ext ?_))
  · match d with
    | ⟨0, _⟩ => rfl
    | ⟨1, _⟩ => show 128 * r.val + 1 * a.val = 128 * r.val + a.val; omega
    | ⟨2, _⟩ => show 128 * q.val + 1 * b.val = 128 * q.val + b.val; omega
  · match d with
    | ⟨0, _⟩ => rfl
    | ⟨1, _⟩ => rfl
    | ⟨2, _⟩ => show 128 * r.val + 1 * a.val = 128 * r.val + a.val; omega

/-- The dl strip read back whole. -/
theorem canon_dl : View.canon (dlTiles a3 h3 a4 h4 x0 x1) = dlHat x0 x1 :=
  funext fun y => View.canon_apply_of_pieces _ _
    (fun p hp x => by
      obtain ⟨r, -, rfl⟩ := List.mem_map.mp hp
      exact dlTile_eq a3 h3 a4 h4 x0 x1 r x) y
    (View.cover_of_tiledL (dlTiles a3 h3 a4 h4 x0 x1) S128x1024.size (by sl_kernel_rfl) y)

/-- The p strip read back whole. -/
theorem canon_p : View.canon (pTiles a5 h5 a6 h6 x2 x3) = pHat x2 x3 :=
  funext fun y => View.canon_apply_of_pieces _ _
    (fun p hp x => by
      obtain ⟨r, -, hp⟩ := List.mem_flatMap.mp hp
      obtain ⟨q, -, rfl⟩ := List.mem_map.mp hp
      exact pTile_eq a5 h5 a6 h6 x2 x3 r q x) y
    (View.cover_of_tiledL (pTiles a5 h5 a6 h6 x2 x3) S128x128.size (by sl_kernel_rfl) y)

/-- The two scratch strips as the product's loads read them. -/
theorem load_dl {sig' : RefSig} {κ : Kind} {sp : Space} (v : View sig' κ sp S2048x1024 .bf16) (L : List (View.Piece (Elt Ideal) S2048x1024 .bf16))
    (h : L = dlTiles a3 h3 a4 h4 x0 x1) (inb) :
    v.readCov L (Rect.unit ![0, 0] S2048x1024.size inb).toLoadRect = dlHat x0 x1 := by
  subst h
  rw [View.readCov_eq_canon', canon_dl]
  exact View.ld_unit_zero (S := S2048x1024) hz2 inb (dlHat x0 x1)

theorem load_p {sig' : RefSig} {κ : Kind} {sp : Space} (v : View sig' κ sp S1024x1536 .bf16) (L : List (View.Piece (Elt Ideal) S1024x1536 .bf16))
    (h : L = pTiles a5 h5 a6 h6 x2 x3) (inb) :
    v.readCov L (Rect.unit ![0, 0] S1024x1536.size inb).toLoadRect = pHat x2 x3 := by
  subst h
  rw [View.readCov_eq_canon', canon_p]
  exact View.ld_unit_zero (S := S1024x1536) hz2 inb (pHat x2 x3)

end Tiles

/-- The accumulation's payload is `step`. -/
theorem pay_step (x0 : Vec Ideal S1x2048x1024 .fp8e5m2) (x1 : Vec Ideal S1x1x1024 .f32) (x2 : Vec Ideal S1x1024x1536 .fp8e4m3)
    (x3 : Vec Ideal S1x1x1024 .f32) (xs : Vec Ideal S2048x1536 .f32) :
    k0_pay1 (F := Ideal) xs (dlHat x0 x1) (pHat x2 x3) = step x0 x1 x2 x3 xs := by
  funext j
  obtain ⟨a, b, rfl⟩ : ∃ a b, j = ix2 a b := ⟨_, _, eq_ix2 j⟩
  unfold k0_pay1 step
  rw [shapeCast_self]
  refine congrArg ((xs (ix2 a b) : EReal) + ·) ?_
  refine (Ideal.matmul_plain_apply (M := 2048) (K := 1024) (N := 1536) none (dlHat x0 x1) (pHat x2 x3) _ a b).trans ?_
  show Ideal.ofBits .f32 0x00000000#32 + _ = _
  rw [Ideal.ofBits_zero_f32, zero_add]

section Cases
variable (c : Dev nD) (i : grid0.Coords) (a3 : Memref sig .tc .vmem S1x2048x1024 .fp8e5m2) (h3 : a3.IsWhole)
  (a4 : Memref sig .tc .vmem S1x1x1024 .f32) (h4 : a4.IsWhole) (a5 : Memref sig .tc .vmem S1x1024x1536 .fp8e4m3) (h5 : a5.IsWhole)
  (a6 : Memref sig .tc .vmem S1x1x1024 .f32) (h6 : a6.IsWhole) (a7 : Memref sig .tc .vmem S1x2048x1536 .bf16) (h7 : a7.IsWhole)
  (a8 : Memref sig .tc .vmem S2048x1536 .f32) (h8 : a8.IsWhole) (a9 : Memref sig .tc .vmem S2048x1024 .bf16) (h9 : a9.IsWhole)
  (a10 : Memref sig .tc .vmem S1024x1536 .bf16) (h10 : a10.IsWhole)
  (x0 : Vec Ideal S1x2048x1024 .fp8e5m2) (x1 : Vec Ideal S1x1x1024 .f32) (x2 : Vec Ideal S1x1024x1536 .fp8e4m3) (x3 : Vec Ideal S1x1x1024 .f32)
  (xs : Vec Ideal S2048x1536 .f32)

/-- A middle point adds its strip's product to the accumulator. -/
theorem sout_B (hc0 : ¬cond0_0 i) (hc1 : ¬cond0_1 i) :
    sout0_B_0 (F := Ideal) c i a3 h3 a4 h4 a5 h5 a6 h6 a7 h7 a8 h8 a9 h9 a10 h10 hc0 hc1 x0 x1 x2 x3 xs = step x0 x1 x2 x3 xs := by
  unfold sout0_B_0
  rw [View.read_writes_eq_canon _ _ _ (scover0_B_0 c i a3 h3 a4 h4 a5 h5 a6 h6 a7 h7 a8 h8 a9 h9 a10 h10 hc0 hc1 x0 x1 x2 x3 xs)]
  unfold kernelRun0_B
  dsimp only
  sl_unfold_words
  rw [View.canon_unit_zero hz2]
  refine (congr (congrArg (k0_pay1 (F := Ideal) _) (load_dl a3 h3 a4 h4 x0 x1 _ _ ?_ _)) (load_p a5 h5 a6 h6 x2 x3 _ _ ?_ _)).trans ?_
  · rfl
  · rfl
  simp only [View.readAt_eq_ld a8.view, h8.read_unread, View.ld_unit_zero (S := S2048x1536) hz2]
  exact pay_step x0 x1 x2 x3 xs

/-- The first point of a block starts the accumulator from zero. -/
theorem sout_A (hc0 : cond0_0 i) (hc1 : ¬cond0_1 i) :
    sout0_A_0 (F := Ideal) c i a3 h3 a4 h4 a5 h5 a6 h6 a7 h7 a8 h8 a9 h9 a10 h10 hc0 hc1 x0 x1 x2 x3 = step x0 x1 x2 x3 (fun _ => (0 : EReal)) := by
  unfold sout0_A_0
  rw [View.read_writes_eq_canon _ _ _ (scover0_A_0 c i a3 h3 a4 h4 a5 h5 a6 h6 a7 h7 a8 h8 a9 h9 a10 h10 hc0 hc1 x0 x1 x2 x3)]
  unfold kernelRun0_A
  dsimp only
  sl_unfold_words
  rw [View.canon_cons_unit_zero (S := S2048x1536) hz2]
  refine (congr (congrArg₂ (k0_pay1 (F := Ideal)) (View.readCov_unit_zero (S := S2048x1536) _ hz2 _ _) (load_dl a3 h3 a4 h4 x0 x1 _ _ ?_ _)) (load_p a5 h5 a6 h6 x2 x3 _ _ ?_ _)).trans ?_
  · rfl
  · rfl
  refine Eq.trans (congrArg (fun z => k0_pay1 (F := Ideal) z (dlHat x0 x1) (pHat x2 x3)) ?_) (pay_step x0 x1 x2 x3 _)
  exact funext fun _ => Ideal.ofBits_zero_f32

/-- The last point of a block adds its product as well; -/
theorem sout_C (hc0 : ¬cond0_0 i) (hc1 : cond0_1 i) :
    sout0_C_0 (F := Ideal) c i a3 h3 a4 h4 a5 h5 a6 h6 a7 h7 a8 h8 a9 h9 a10 h10 hc0 hc1 x0 x1 x2 x3 xs = step x0 x1 x2 x3 xs := by
  unfold sout0_C_0
  rw [View.read_writes_eq_canon _ _ _ (scover0_C_0 c i a3 h3 a4 h4 a5 h5 a6 h6 a7 h7 a8 h8 a9 h9 a10 h10 hc0 hc1 x0 x1 x2 x3 xs)]
  unfold kernelRun0_C
  dsimp only
  sl_unfold_words
  rw [View.canon_unit_zero hz2]
  refine (congr (congrArg (k0_pay1 (F := Ideal) _) (load_dl a3 h3 a4 h4 x0 x1 _ _ ?_ _)) (load_p a5 h5 a6 h6 x2 x3 _ _ ?_ _)).trans ?_
  · rfl
  · rfl
  simp only [View.readAt_eq_ld a8.view, h8.read_unread, View.ld_unit_zero (S := S2048x1536) hz2]
  exact pay_step x0 x1 x2 x3 xs

/-- and writes the accumulator out, times twenty. -/
theorem out_C (hc0 : ¬cond0_0 i) (hc1 : cond0_1 i) (y : S1x2048x1536.Idx) :
    out0_C_4 (F := Ideal) c i a3 h3 a4 h4 a5 h5 a6 h6 a7 h7 a8 h8 a9 h9 a10 h10 hc0 hc1 x0 x1 x2 x3 xs y
      = (step x0 x1 x2 x3 xs (ix2 (y 1) (y 2)) : EReal) * Ideal.ofBits .f32 0x41A00000#32 := by
  unfold out0_C_4
  rw [View.read_writes_eq_canon _ _ _ (cover0_C_4 c i a3 h3 a4 h4 a5 h5 a6 h6 a7 h7 a8 h8 a9 h9 a10 h10 hc0 hc1 x0 x1 x2 x3 xs)]
  unfold kernelRun0_C
  dsimp only
  sl_unfold_words
  rw [View.canon_unit_zero hz3]
  refine (congrFun (congrArg (k0_pay2 (F := Ideal)) ((View.readCov_unit_zero (S := S2048x1536) _ hz2 _ _).trans
    (congr (congrArg (k0_pay1 (F := Ideal) _) (load_dl a3 h3 a4 h4 x0 x1 _ _ ?_ _)) (load_p a5 h5 a6 h6 x2 x3 _ _ ?_ _)))) y).trans ?_
  · rfl
  · rfl
  simp only [View.readAt_eq_ld a8.view, h8.read_unread, View.ld_unit_zero (S := S2048x1536) hz2]
  rw [pay_step x0 x1 x2 x3 xs]
  unfold k0_pay2
  exact shapeCast_addUnit_apply (![2048, 1536] : Fin 2 → Nat) _ _ y |>.trans (congrArg (fun z => (step x0 x1 x2 x3 xs z : EReal) * Ideal.ofBits .f32 0x41A00000#32)
    (funext fun d => by match d with | ⟨0, _⟩ => rfl | ⟨1, _⟩ => rfl))

end Cases
end Cert.DqIdeal.Block
end
-- ==== Proof.Dq.Grid.lean ====
/- The `dq` call over its grid. Eight consecutive points, one for each strip of 1024 passages, share one block of the
   output; the accumulator after the last of them is the sum over all 8192 passages, and that sum times 20 is written back. -/
module

public import proofs.«01_k».proof.Proof.Dq.Block

@[expose] public section
set_option maxRecDepth 16384
noncomputable section
namespace Cert.DqIdeal.Grid
open Cert.DqIdeal Cert.DqIdeal.Gen Cert.DqIdeal.Value Cert.DqIdeal.Block
open Idealize.ShloMosaic Idealize.ShloMosaic.TcCoe Idealize.SL.Sem Idealize.ShloMosaic.ValueIdx

variable (m : (ℓ : Loc nD τ sig) → Buf (Elt Ideal) ℓ)

/-- The strip product point `n` adds, at an element of the accumulator (0 past the grid). -/
def part (c : Dev nD) (n : ℕ) (j : S2048x1536.Idx) : EReal :=
  if h : n < cfg0.N then
    ∑ k : Fin 1024, (dlHat (iblk m c 0 ⟨n, h⟩) (iblk m c 1 ⟨n, h⟩) (ix2 (j 0) k) : EReal)
      * pHat (iblk m c 2 ⟨n, h⟩) (iblk m c 3 ⟨n, h⟩) (ix2 k (j 1))
  else 0

theorem step_eq (c : Dev nD) (n : ℕ) (h : n < cfg0.N) (xs : Vec Ideal S2048x1536 .f32) (j : S2048x1536.Idx) :
    (step (iblk m c 0 ⟨n, h⟩) (iblk m c 1 ⟨n, h⟩) (iblk m c 2 ⟨n, h⟩) (iblk m c 3 ⟨n, h⟩) xs j : EReal) = (xs j : EReal) + part m c n j := by
  unfold part
  rw [dif_pos h]
  rfl

/-- The accumulator after the first point of a run. -/
theorem acc_first (c : Dev nD) (t : Fin cfg0.N) (h0 : t.val % 8 = 0) (j : S2048x1536.Idx) :
    ((outsAt0 m c t.val t.isLt).2 j : EReal) = part m c t.val j := by
  rw [outsAt0_A m c t h0 (by omega)]
  dsimp only
  rw [sout_A]
  exact (step_eq m c t.val t.isLt _ j).trans (zero_add _)

/-- The accumulator after any later point of a run. -/
theorem acc_next (c : Dev nD) (n : ℕ) (h : n + 1 < cfg0.N) (h0 : ¬(n + 1) % 8 = 0) (j : S2048x1536.Idx) :
    ((outsAt0 m c (n + 1) h).2 j : EReal) = ((outsAt0 m c n (Nat.lt_of_succ_lt h)).2 j : EReal) + part m c (n + 1) j := by
  rw [outsAt0_succ]
  by_cases h1 : (n + 1) % 8 = 7
  · rw [stAt0_C m c ⟨n + 1, h⟩ _ h0 h1]
    dsimp only
    rw [sout_C]
    exact step_eq m c (n + 1) h _ j
  · rw [stAt0_B m c ⟨n + 1, h⟩ _ h0 h1]
    dsimp only
    rw [sout_B]
    exact step_eq m c (n + 1) h _ j

/-- The accumulator after point `r` of run `q`: the sum of the strip products so far. -/
theorem acc_eq (c : Dev nD) (q : ℕ) (j : S2048x1536.Idx) : ∀ (r : ℕ) (hr : r < 8) (h : 8 * q + r < cfg0.N),
    ((outsAt0 m c (8 * q + r) h).2 j : EReal) = ∑ s ∈ Finset.range (r + 1), part m c (8 * q + s) j
  | 0, _, h => by
    rw [Finset.sum_range_one]
    exact acc_first m c ⟨8 * q + 0, h⟩ (by dsimp only; omega) j
  | r + 1, hr, h => by
    rw [Finset.sum_range_succ, ← acc_eq c q j r (by omega) (by omega)]
    exact acc_next m c (8 * q + r) h (by omega) j

/-- What the last point of run `q` leaves in the output's buffer. -/
theorem out_eq (c : Dev nD) (q : ℕ) (h : 8 * q + 7 < cfg0.N) (y : S1x2048x1536.Idx) :
    ((outsAt0 m c (8 * q + 7) h).1 y : EReal)
      = (∑ s ∈ Finset.range 8, part m c (8 * q + s) (ix2 (y 1) (y 2))) * Ideal.ofBits .f32 0x41A00000#32 := by
  rw [← acc_eq m c q (ix2 (y 1) (y 2)) 7 (by omega) h]
  show ((outsAt0 m c (8 * q + 6 + 1) h).1 y : EReal) = ((outsAt0 m c (8 * q + 6 + 1) h).2 (ix2 (y 1) (y 2)) : EReal) * _
  rw [outsAt0_succ, stAt0_C m c ⟨8 * q + 6 + 1, h⟩ _ (by dsimp only; omega) (by dsimp only; omega)]
  dsimp only
  rw [out_C, sout_C]

/-! ## The blocks as parts of the arguments -/

theorem idx0 : ∀ t : Fin cfg0.N, win0_0.index t (0 : Fin 3) = t.val / 16 ∧ win0_0.index t (1 : Fin 3) = 0 ∧ win0_0.index t (2 : Fin 3) = t.val % 8 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = t.val % 8 :=
  (by decide +kernel : ∀ t : Fin grid0.N, _)
theorem idx2 : ∀ t : Fin cfg0.N, win0_2.index t (0 : Fin 3) = t.val / 16 ∧ win0_2.index t (1 : Fin 3) = t.val % 8 ∧ win0_2.index t (2 : Fin 3) = t.val / 8 % 2 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = t.val % 8 :=
  (by decide +kernel : ∀ t : Fin grid0.N, _)

/-- The passage scales as the call's host code lays them out. -/
theorem scales_eq (c : Dev nD) (b : Fin 2) (k : Fin 8192) :
    (V m c main_v0 : Vec Ideal S2x1x8192 .f32) (ix3 b (0 : Fin 1) k) = m ((c : Thread nD τ).loc main_arg3) (ix2 b k) := by
  unfold_abbrev_sides
  after_results
  exact shapeCast_apply (m ((c : Thread nD τ).loc main_arg3)) _ _ (ix2 b k) (by
    show (S2x8192.rowMajor (ix2 b k)).val = (S2x1x8192.rowMajor (ix3 b (0 : Fin 1) k)).val
    simp [Shape.rowMajor_val_two, Shape.rowMajor_val_three])

theorem blk0 (c : Dev nD) (t : Fin cfg0.N) (a : Fin 2048) (k : Fin 1024) (b : Fin 2) (hb : b.val = t.val / 16) (k' : Fin 8192)
    (hk : k'.val = 1024 * (t.val % 8) + k.val) :
    (iblk m c 0 t : Vec Ideal S1x2048x1024 .fp8e5m2) (ix3 (0 : Fin 1) a k) = m ((c : Thread nD τ).loc main_arg0) (ix3 b a k') := by
  obtain ⟨e0, e1, e2⟩ := idx0 t
  unfold iblk
  rw [View.read_apply]
  show V m c main_arg0 _ = _
  rw [V_main_arg0]
  congr 1
  funext d
  apply Fin.ext
  match d with
  | ⟨0, _⟩ => show win0_0.index t (0 : Fin 3) * 1 + 1 * 0 = b.val; omega
  | ⟨1, _⟩ => show win0_0.index t (1 : Fin 3) * 2048 + 1 * a.val = a.val; omega
  | ⟨2, _⟩ => show win0_0.index t (2 : Fin 3) * 1024 + 1 * k.val = k'.val; omega

theorem blk1 (c : Dev nD) (t : Fin cfg0.N) (k : Fin 1024) (b : Fin 2) (hb : b.val = t.val / 16) (k' : Fin 8192)
    (hk : k'.val = 1024 * (t.val % 8) + k.val) :
    (iblk m c 1 t : Vec Ideal S1x1x1024 .f32) (ix3 (0 : Fin 1) (0 : Fin 1) k) = m ((c : Thread nD τ).loc main_arg1) (ix3 b (0 : Fin 1) k') := by
  obtain ⟨e0, e1, e2⟩ := idx1 t
  unfold iblk
  rw [View.read_apply]
  show V m c main_arg1 _ = _
  rw [V_main_arg1]
  congr 1
  funext d
  apply Fin.ext
  match d with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 1024 + 1 * k.val = k'.val; omega

theorem blk2 (c : Dev nD) (t : Fin cfg0.N) (k : Fin 1024) (d : Fin 1536) (b : Fin 2) (hb : b.val = t.val / 16) (k' : Fin 8192)
    (hk : k'.val = 1024 * (t.val % 8) + k.val) (d' : Fin 3072) (hd : d'.val = 1536 * (t.val / 8 % 2) + d.val) :
    (iblk m c 2 t : Vec Ideal S1x1024x1536 .fp8e4m3) (ix3 (0 : Fin 1) k d) = m ((c : Thread nD τ).loc main_arg2) (ix3 b k' d') := by
  obtain ⟨e0, e1, e2⟩ := idx2 t
  unfold iblk
  rw [View.read_apply]
  show V m c main_arg2 _ = _
  rw [V_main_arg2]
  congr 1
  funext x
  apply Fin.ext
  match x with
  | ⟨0, _⟩ => show win0_2.index t (0 : Fin 3) * 1 + 1 * 0 = b.val; omega
  | ⟨1, _⟩ => show win0_2.index t (1 : Fin 3) * 1024 + 1 * k.val = k'.val; omega
  | ⟨2, _⟩ => show win0_2.index t (2 : Fin 3) * 1536 + 1 * d.val = d'.val; omega

theorem blk3 (c : Dev nD) (t : Fin cfg0.N) (k : Fin 1024) (b : Fin 2) (hb : b.val = t.val / 16) (k' : Fin 8192)
    (hk : k'.val = 1024 * (t.val % 8) + k.val) :
    (iblk m c 3 t : Vec Ideal S1x1x1024 .f32) (ix3 (0 : Fin 1) (0 : Fin 1) k) = m ((c : Thread nD τ).loc main_arg3) (ix2 b k') := by
  obtain ⟨e0, e1, e2⟩ := idx3 t
  refine Eq.trans ?_ (scales_eq m c b k')
  unfold iblk
  rw [View.read_apply]
  show V m c main_v0 _ = V m c main_v0 _
  congr 1
  funext d
  apply Fin.ext
  match d with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 1024 + 1 * k.val = k'.val; omega

/-! ## The whole sum -/

/-- Passage `k`'s term of the gradient at `(b, a, d)`: the dequantised dl times the dequantised p. -/
def term (x0 : Vec Ideal S2x2048x8192 .fp8e5m2) (x1 : Vec Ideal S2x1x8192 .f32) (x2 : Vec Ideal S2x8192x3072 .fp8e4m3) (x3 : Vec Ideal S2x8192 .f32)
    (b : Fin 2) (a : Fin 2048) (d : Fin 3072) (k : Fin 8192) : EReal :=
  ((x0 (ix3 b a k) : EReal) * x1 (ix3 b (0 : Fin 1) k)) * ((x2 (ix3 b k d) : EReal) * x3 (ix2 b k))

/-- The same at the call's arguments. -/
abbrev termAt (c : Dev nD) : Fin 2 → Fin 2048 → Fin 3072 → Fin 8192 → EReal :=
  term (m ((c : Thread nD τ).loc main_arg0)) (m ((c : Thread nD τ).loc main_arg1)) (m ((c : Thread nD τ).loc main_arg2)) (m ((c : Thread nD τ).loc main_arg3))

theorem part_eq (c : Dev nD) (b : Fin 2) (n : Fin 2) (s : Fin 8) (a : Fin 2048) (d : Fin 1536) (d' : Fin 3072) (hd : d'.val = 1536 * n.val + d.val) :
    part m c (8 * (2 * b.val + n.val) + s.val) (ix2 a d)
      = ∑ k : Fin 1024, termAt m c b a d' (finProdFinEquiv (s, k)) := by
  have hN : cfg0.N = 32 := N_0
  have h : 8 * (2 * b.val + n.val) + s.val < cfg0.N := by omega
  unfold part
  rw [dif_pos h]
  refine Finset.sum_congr rfl fun k _ => ?_
  have hb : b.val = (8 * (2 * b.val + n.val) + s.val) / 16 := by omega
  have hk : (finProdFinEquiv (s, k) : Fin (8 * 1024)).val = 1024 * ((8 * (2 * b.val + n.val) + s.val) % 8) + k.val := by
    rw [finProdFinEquiv_apply_val]; dsimp only; omega
  unfold dlHat pHat termAt term
  show ((_ : EReal) * _) * ((_ : EReal) * _) = _
  rw [blk0 m c ⟨_, h⟩ _ k b hb _ hk, blk1 m c ⟨_, h⟩ k b hb _ hk,
    blk2 m c ⟨_, h⟩ k _ b hb _ hk d' (by dsimp only; show _ = _ + d.val; omega), blk3 m c ⟨_, h⟩ k b hb _ hk]

/-- The eight strips together: the sum over all passages. -/
theorem parts_eq (c : Dev nD) (b : Fin 2) (n : Fin 2) (a : Fin 2048) (d : Fin 1536) (d' : Fin 3072) (hd : d'.val = 1536 * n.val + d.val) :
    ∑ s ∈ Finset.range 8, part m c (8 * (2 * b.val + n.val) + s) (ix2 a d) = ∑ k : Fin 8192, termAt m c b a d' k := by
  rw [Finset.sum_range (fun s => part m c (8 * (2 * b.val + n.val) + s) (ix2 a d)),
    ← Equiv.sum_comp (finProdFinEquiv (m := 8) (n := 1024)) (fun k => termAt m c b a d' k), Fintype.sum_prod_type]
  exact Finset.sum_congr rfl fun s _ => part_eq m c b n s a d d' hd

/-- The call's result, element by element. -/
theorem G4_eq (c : Dev nD) (b : Fin 2) (a : Fin 2048) (d : Fin 3072) :
    (G4 m c (ix3 b a d) : EReal) = (∑ k : Fin 8192, termAt m c b a d k) * Ideal.ofBits .f32 0x41A00000#32 := by
  have hN : cfg0.N = 32 := N_0
  have hp : pt4Of (ix3 b a d) = 8 * (2 * b.val + d.val / 1536) + 7 := by
    show 8 * (2 * (b.val / 1 - 0) + 2 * (a.val / 2048 - 0) + 1 * (d.val / 1536 - 0)) + 7 = _
    omega
  have h : 8 * (2 * b.val + d.val / 1536) + 7 < cfg0.N := by omega
  unfold G4
  rw [dif_pos (by rw [hp]; exact h), fold0_congr m c _ _ (8 * (2 * b.val + d.val / 1536) + 7) (by omega) hp, ← outsAt0_sweep m c _ h, out_eq]
  refine congrArg (· * _) ?_
  refine (Finset.sum_congr rfl fun s _ => ?_).trans (parts_eq m c b ⟨d.val / 1536, by omega⟩ a ⟨d.val % 1536, by omega⟩ d (by dsimp only; omega))
  refine congrArg (part m c _) ?_
  refine congr (congrArg ix2 (Fin.ext ?_)) rfl
  show a.val % 2048 = a.val
  omega

end Cert.DqIdeal.Grid
end
-- ==== Proof.Dq.Ref.lean ====
/- The plain program of the `dq` call: its dequantise step leaves the two products of codes and scales, and its result is
   their contraction over the passages, times 20. -/
module

public import proofs.«01_k».proof.Proof.Gen.DqRefIdeal.Read
public import Idealize.ShloMosaic.Lib.ValueIdx
public import Idealize.ShloMosaic.PureOps.Ideal.Laws

@[expose] public section
set_option maxRecDepth 16384
noncomputable section
namespace Cert.DqRefIdeal.Ref
open Cert.DqRefIdeal Cert.DqRefIdeal.Gen Cert.DqRefIdeal.Value Cert.DqRefIdeal.Read
open Idealize.ShloMosaic Idealize.ShloMosaic.TcCoe Idealize.SL.Sem Idealize.ShloMosaic.ValueIdx

variable (m : (ℓ : Loc nD τ sig) → Buf (Elt Ideal) ℓ)

theorem hz3 : (![0, 0, 0] : Fin 3 → Nat) = fun _ => 0 := funext fun a => by fin_cases a <;> rfl

/-- The arguments at core `c`. -/
abbrev arg0 (c : Dev nD) : Vec Ideal S2x2048x8192 .fp8e5m2 := m ((c : Thread nD τ).loc main_arg0)
abbrev arg1 (c : Dev nD) : Vec Ideal S2x1x8192 .f32 := m ((c : Thread nD τ).loc main_arg1)
abbrev arg2 (c : Dev nD) : Vec Ideal S2x8192x3072 .fp8e4m3 := m ((c : Thread nD τ).loc main_arg2)
abbrev arg3 (c : Dev nD) : Vec Ideal S2x8192 .f32 := m ((c : Thread nD τ).loc main_arg3)

/-- Each window's one block is its whole array. -/
theorem iblk0 (c : Dev nD) : (iblk m c 0 t0_0 : Vec Ideal S2x2048x8192 .fp8e5m2) = V m c main_arg0 :=
  Memref.read_access_unit_zero (Elt Ideal) main_arg0 (off := fun a => win0_0.index t0_0 a * main_arg0.ty.shape.size a)
    (funext fun a => by fin_cases a <;> decide) (fun a => by fin_cases a <;> decide) (V m c main_arg0)
theorem iblk1 (c : Dev nD) : (iblk m c 1 t0_0 : Vec Ideal S2x1x8192 .f32) = V m c main_arg1 :=
  Memref.read_access_unit_zero (Elt Ideal) main_arg1 (off := fun a => win0_1.index t0_0 a * main_arg1.ty.shape.size a)
    (funext fun a => by fin_cases a <;> decide) (fun a => by fin_cases a <;> decide) (V m c main_arg1)
theorem iblk2 (c : Dev nD) : (iblk m c 2 t0_0 : Vec Ideal S2x8192x3072 .fp8e4m3) = V m c main_arg2 :=
  Memref.read_access_unit_zero (Elt Ideal) main_arg2 (off := fun a => win0_2.index t0_0 a * main_arg2.ty.shape.size a)
    (funext fun a => by fin_cases a <;> decide) (fun a => by fin_cases a <;> decide) (V m c main_arg2)
theorem iblk3 (c : Dev nD) : (iblk m c 3 t0_0 : Vec Ideal S2x8192x1 .f32) = V m c main_v0 :=
  Memref.read_access_unit_zero (Elt Ideal) main_v0 (off := fun a => win0_3.index t0_0 a * main_v0.ty.shape.size a)
    (funext fun a => by fin_cases a <;> decide) (fun a => by fin_cases a <;> decide) (V m c main_v0)

/-- The passage scales as a column. -/
theorem scales_eq (c : Dev nD) (b : Fin 2) (k : Fin 8192) :
    (V m c main_v0 : Vec Ideal S2x8192x1 .f32) (ix3 b k (0 : Fin 1)) = m ((c : Thread nD τ).loc main_arg3) (ix2 b k) := by
  show StableHlo.after (List.flatten [hostOps0]) (fun b => m (c, b)) (Proc.devRef .tc main_v0) (ix3 b k (0 : Fin 1)) = _
  simp only [hostOps0, List.flatten_cons, List.flatten_nil, List.append_nil, List.cons_append, List.nil_append]
  after_results
  exact broadcastInDim_apply _ _ _ _ (ix2 b k) (fun d => by match d with | ⟨0, _⟩ => rfl | ⟨1, _⟩ => rfl)

/-- dl, dequantised. -/
def dl (c : Dev nD) : Vec Ideal S2x2048x8192 .bf16 :=
  out0_4 (V m c main_arg0) (V m c main_arg1) (V m c main_arg2) (V m c main_v0)
/-- p, dequantised. -/
def p (c : Dev nD) : Vec Ideal S2x8192x3072 .bf16 :=
  out0_5 (V m c main_arg0) (V m c main_arg1) (V m c main_arg2) (V m c main_v0)

theorem dl_apply (c : Dev nD) (b : Fin 2) (a : Fin 2048) (k : Fin 8192) :
    (dl m c (ix3 b a k) : EReal) = (arg0 m c (ix3 b a k) : EReal) * arg1 m c (ix3 b (0 : Fin 1) k) := by
  unfold dl out0_4
  rw [View.canon_unit_zero hz3, View.ld_unit_zero hz3, View.ld_unit_zero hz3, V_main_arg0, V_main_arg1]
  unfold k0_pay1
  show (_ : EReal) * broadcastTo S2x2048x8192 _ broadcasts_S2x1x8192_S2x2048x8192 (ix3 b a k) = _
  rw [broadcastTo_apply _ _ (ix3 b a k) (ix3 b (0 : Fin 1) k) (fun d => by match d with | ⟨0, _⟩ => rfl | ⟨1, _⟩ => rfl | ⟨2, _⟩ => rfl)]
  rfl

theorem p_apply (c : Dev nD) (b : Fin 2) (k : Fin 8192) (d : Fin 3072) :
    (p m c (ix3 b k d) : EReal) = (arg2 m c (ix3 b k d) : EReal) * arg3 m c (ix2 b k) := by
  unfold p out0_5
  rw [View.canon_unit_zero hz3, View.ld_unit_zero hz3, View.ld_unit_zero hz3, V_main_arg2]
  unfold k0_pay2
  show (_ : EReal) * broadcastTo S2x8192x3072 _ broadcasts_S2x8192x1_S2x8192x3072 (ix3 b k d) = _
  rw [broadcastTo_apply _ _ (ix3 b k d) (ix3 b k (0 : Fin 1)) (fun d => by match d with | ⟨0, _⟩ => rfl | ⟨1, _⟩ => rfl | ⟨2, _⟩ => rfl),
    shapeCast_self]
  exact congrArg (_ * ·) (scales_eq m c b k)

/-- What the region's first result array ends holding. -/
theorem reg0 (c : Dev nD) : reg_main_v1_0 m c = dl m c :=
  (dats m 0 c).arrAt_eq_of_cover 4 (dl m c) (fun t hf => by
    obtain rfl : t = t0_0 := fin_N0 t
    show (cfg0.win 4).cut (grid0.coords t0_0) ((dats m 0 c).after 4 t0_0) = _
    rw [after0_4, iblk0, iblk1, iblk2, iblk3]
    exact (Memref.read_access_unit_zero (Elt Ideal) main_v1_0 (off := fun a => win0_4.index t0_0 a * main_v1_0.ty.shape.size a)
      (funext fun a => by fin_cases a <;> decide) (fun a => by fin_cases a <;> decide) (dl m c)).symm) fun i =>
    ⟨t0_0, flush0_4 t0_0, by
      show i ∈ ((View.whole main_v1_0).slice (win0_4.rect t0_0)).set
      rw [View.set_slice_whole, Rect.mem_set_unit]
      intro a
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 2 from by decide +kernel]
                  exact ⟨Nat.zero_le _, (Nat.zero_add 2).symm ▸ (i 0).isLt⟩
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 2048 from by decide +kernel]
                  exact ⟨Nat.zero_le _, (Nat.zero_add 2048).symm ▸ (i 1).isLt⟩
      | ⟨2, _⟩ => show win0_4.index t0_0 2 * win0_4.size 2 ≤ (i 2 : Nat) ∧ (i 2 : Nat) < win0_4.index t0_0 2 * win0_4.size 2 + win0_4.xsize (grid0.coords t0_0) 2
                  rw [show win0_4.index t0_0 2 * win0_4.size 2 = 0 from by decide +kernel, show win0_4.xsize (grid0.coords t0_0) 2 = 8192 from by decide +kernel]
                  exact ⟨Nat.zero_le _, (Nat.zero_add 8192).symm ▸ (i 2).isLt⟩⟩

/-- What its second result array ends holding. -/
theorem reg1 (c : Dev nD) : reg_main_v1_1 m c = p m c :=
  (dats m 0 c).arrAt_eq_of_cover 5 (p m c) (fun t hf => by
    obtain rfl : t = t0_0 := fin_N0 t
    show (cfg0.win 5).cut (grid0.coords t0_0) ((dats m 0 c).after 5 t0_0) = _
    rw [after0_5, iblk0, iblk1, iblk2, iblk3]
    exact (Memref.read_access_unit_zero (Elt Ideal) main_v1_1 (off := fun a => win0_5.index t0_0 a * main_v1_1.ty.shape.size a)
      (funext fun a => by fin_cases a <;> decide) (fun a => by fin_cases a <;> decide) (p m c)).symm) fun i =>
    ⟨t0_0, flush0_5 t0_0, by
      show i ∈ ((View.whole main_v1_1).slice (win0_5.rect t0_0)).set
      rw [View.set_slice_whole, Rect.mem_set_unit]
      intro a
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 2 from by decide +kernel]
                  exact ⟨Nat.zero_le _, (Nat.zero_add 2).symm ▸ (i 0).isLt⟩
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 8192 from by decide +kernel]
                  exact ⟨Nat.zero_le _, (Nat.zero_add 8192).symm ▸ (i 1).isLt⟩
      | ⟨2, _⟩ => show win0_5.index t0_0 2 * win0_5.size 2 ≤ (i 2 : Nat) ∧ (i 2 : Nat) < win0_5.index t0_0 2 * win0_5.size 2 + win0_5.xsize (grid0.coords t0_0) 2
                  rw [show win0_5.index t0_0 2 * win0_5.size 2 = 0 from by decide +kernel, show win0_5.xsize (grid0.coords t0_0) 2 = 3072 from by decide +kernel]
                  exact ⟨Nat.zero_le _, (Nat.zero_add 3072).symm ▸ (i 2).isLt⟩⟩

/-- The plain program's result, element by element. -/
theorem result_apply (c : Dev nD) (b : Fin 2) (a : Fin 2048) (d : Fin 3072) :
    (val_main_v5 (F := Ideal) (reg_main_v1_0 m c) (reg_main_v1_1 m c) (ix3 b a d) : EReal)
      = (∑ k : Fin 8192, ((arg0 m c (ix3 b a k) : EReal) * arg1 m c (ix3 b (0 : Fin 1) k)) * ((arg2 m c (ix3 b k d) : EReal) * arg3 m c (ix2 b k)))
          * Ideal.ofBits .f32 0x41A00000#32 := by
  rw [reg0, reg1, val_main_v5_apply]
  show val_main_v4 (F := Ideal) (dl m c) (p m c) (ix3 b a d) = _
  rw [val_main_v4_apply, val_main_v3_apply, val_main_cst_apply, val_main_v2_apply]
  refine congrArg (· * Ideal.ofBits .f32 0x41A00000#32) (Finset.sum_congr rfl fun k _ => ?_)
  have el : lidx_main_v2 (ix3 b a d) k = ix3 b a k := funext fun x => by match x with | ⟨0, _⟩ => rfl | ⟨1, _⟩ => rfl | ⟨2, _⟩ => rfl
  have er : ridx_main_v2 (ix3 b a d) k = ix3 b k d := funext fun x => by match x with | ⟨0, _⟩ => rfl | ⟨1, _⟩ => rfl | ⟨2, _⟩ => rfl
  rw [el, er]
  exact congr (congrArg _ (dl_apply m c b a k)) (p_apply m c b k d)

end Cert.DqRefIdeal.Ref
end
-- ==== Proof.Dq.Equal.lean ====
/- The `dq` call and its plain program end with equal results: both are the contraction over the passages of the two
   dequantised operands, times 20. -/
module

public import proofs.«01_k».proof.Defs
public import proofs.«01_k».proof.Proof.Gen.DqIdeal
public import proofs.«01_k».proof.Proof.Gen.DqRefIdeal
public import proofs.«01_k».proof.Proof.Dq.Grid
public import proofs.«01_k».proof.Proof.Dq.Ref

@[expose] public section
noncomputable section
namespace Cert.DqEqual
open Idealize.ShloMosaic Idealize.ShloMosaic.TcCoe Idealize.SL.Sem Idealize.ShloMosaic.ValueIdx

/-- From memories that agree on the arguments the two results are equal, element by element. -/
theorem result_eq (m : (ℓ : Loc Cert.DqIdeal.nD Cert.DqIdeal.τ Cert.DqIdeal.sig) → Buf (Elt Ideal) ℓ)
    (m' : (ℓ : Loc Cert.DqRefIdeal.nD Cert.DqRefIdeal.τ Cert.DqRefIdeal.sig) → Buf (Elt Ideal) ℓ) (c : Dev Cert.DqIdeal.nD)
    (h0 : m' ((c.tc : Thread Cert.DqRefIdeal.nD Cert.DqRefIdeal.τ).loc Cert.DqRefIdeal.main_arg0) = m ((c.tc : Thread Cert.DqIdeal.nD Cert.DqIdeal.τ).loc Cert.DqIdeal.main_arg0))
    (h1 : m' ((c.tc : Thread Cert.DqRefIdeal.nD Cert.DqRefIdeal.τ).loc Cert.DqRefIdeal.main_arg1) = m ((c.tc : Thread Cert.DqIdeal.nD Cert.DqIdeal.τ).loc Cert.DqIdeal.main_arg1))
    (h2 : m' ((c.tc : Thread Cert.DqRefIdeal.nD Cert.DqRefIdeal.τ).loc Cert.DqRefIdeal.main_arg2) = m ((c.tc : Thread Cert.DqIdeal.nD Cert.DqIdeal.τ).loc Cert.DqIdeal.main_arg2))
    (h3 : m' ((c.tc : Thread Cert.DqRefIdeal.nD Cert.DqRefIdeal.τ).loc Cert.DqRefIdeal.main_arg3) = m ((c.tc : Thread Cert.DqIdeal.nD Cert.DqIdeal.τ).loc Cert.DqIdeal.main_arg3)) :
    Cert.DqRefIdeal.Read.val_main_v5 (F := Ideal) (Cert.DqRefIdeal.Value.reg_main_v1_0 m' c) (Cert.DqRefIdeal.Value.reg_main_v1_1 m' c)
      = Cert.DqIdeal.Value.G4 m c := by
  funext i
  obtain ⟨b, a, d, rfl⟩ : ∃ b a d, i = ix3 b a d := ⟨_, _, _, eq_ix3 i⟩
  refine (Cert.DqRefIdeal.Ref.result_apply m' c b a d).trans ?_
  rw [Cert.DqRefIdeal.Ref.arg0, Cert.DqRefIdeal.Ref.arg1, Cert.DqRefIdeal.Ref.arg2, Cert.DqRefIdeal.Ref.arg3, h0, h1, h2, h3]
  exact (Cert.DqIdeal.Grid.G4_eq m c b a d).symm

/-- The value claim. -/
theorem algebraic : Cert.algebraic_DqIdeal_DqRefIdeal (hDqIdeal := Cert.DqIdeal.Gen.facts) (hDqRefIdeal := Cert.DqRefIdeal.Gen.facts) :=
  fun m ρ m' ρ' _ hag => ⟨fun c => Cert.DqIdeal.Value.G4 m c, Cert.DqIdeal.Value.run m ρ,
    (θ_run _ _ _).mono (fun _ h c => ⟨(h c).1.trans (result_eq m m' c (hag c).1 (hag c).2.1 (hag c).2.2.1 (hag c).2.2.2), (h c).2⟩)
      (Cert.DqRefIdeal.Value.run m' ρ')⟩

end Cert.DqEqual
end
-- ==== Proof.Logits.Block.lean ====
/- What one grid point of the `logits` call computes. A point takes 512 passages; it goes through the 2048 queries in
   four row groups and through the passages in four groups of 128 lanes. `lgv` is the point's block of logits element by
   element, `mNew` and `lNew` the running lane maxima and lane sums after the point. -/
module

public import proofs.«01_k».proof.Proof.Gen.LogitsIdeal.Value
public import Idealize.ShloMosaic.Lib.ValueIdx
public import Idealize.ShloMosaic.Lib.MatmulPlain
public import Idealize.ShloMosaic.Lib.Pipeline.ReadBack
public import Idealize.ShloMosaic.PureOps.Ideal.Laws

@[expose] public section
set_option maxRecDepth 16384
noncomputable section
namespace Cert.LogitsIdeal.Block
open Cert.LogitsIdeal Cert.LogitsIdeal.Gen Idealize.ShloMosaic Idealize.ShloMosaic.TcCoe Idealize.SL.Sem Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- Lane `b` of lane group `g`, as a passage of the strip. -/
def col (g : Fin 4) (b : Fin 128) : Fin 512 := ⟨128 * g.val + b.val, by omega⟩

/-- The strip's logit of query `a` and the passage in lane `b` of lane group `g`. -/
def lgv (x0 : Vec Ideal S1x2048x3072 .fp8e4m3) (x2 : Vec Ideal S1x512x3072 .fp8e4m3) (x3 : Vec Ideal S1x1x512 .f32) (q : Vec Ideal S2048x128 .f32)
    (a : Fin 2048) (g : Fin 4) (b : Fin 128) : EReal :=
  ((∑ d : Fin 3072, (x0 (ix3 (0 : Fin 1) a d) : EReal) * x2 (ix3 (0 : Fin 1) (col g b) d)) * q (ix2 a b)) * x3 (ix3 (0 : Fin 1) (0 : Fin 1) (col g b))

/-- The maximum of an old value and four new ones, in the kernel's order. -/
def mx (mo : EReal) (x : Fin 4 → EReal) : EReal := max (max (max (max mo (x 0)) (x 1)) (x 2)) (x 3)

/-- The running sum after four new values, rescaled to the new maximum. -/
def sm (mo lo : EReal) (x : Fin 4 → EReal) : EReal :=
  lo * Ideal.exp (mo - mx mo x) + Ideal.exp (x 0 - mx mo x) + Ideal.exp (x 1 - mx mo x) + Ideal.exp (x 2 - mx mo x) + Ideal.exp (x 3 - mx mo x)

/-- The lane maxima after a point. -/
def mNew (x0 : Vec Ideal S1x2048x3072 .fp8e4m3) (x2 : Vec Ideal S1x512x3072 .fp8e4m3) (x3 : Vec Ideal S1x1x512 .f32) (q m0 : Vec Ideal S2048x128 .f32) :
    Vec Ideal S2048x128 .f32 :=
  fun j => mx (m0 j) fun g => lgv x0 x2 x3 q (j 0) g (j 1)

/-- The lane sums after a point. -/
def lNew (x0 : Vec Ideal S1x2048x3072 .fp8e4m3) (x2 : Vec Ideal S1x512x3072 .fp8e4m3) (x3 : Vec Ideal S1x1x512 .f32) (q m0 l0 : Vec Ideal S2048x128 .f32) :
    Vec Ideal S2048x128 .f32 :=
  fun j => sm (m0 j) (l0 j) fun g => lgv x0 x2 x3 q (j 0) g (j 1)

/-- A point's block of logits. -/
def lgBlock (x0 : Vec Ideal S1x2048x3072 .fp8e4m3) (x2 : Vec Ideal S1x512x3072 .fp8e4m3) (x3 : Vec Ideal S1x1x512 .f32) (q : Vec Ideal S2048x128 .f32) :
    Vec Ideal S1x2048x512 .f32 :=
  fun y => lgv x0 x2 x3 q (y 1) ⟨(y 2).val / 128, by have := (y 2).isLt; show _ < 4; change _ < 512 at this; omega⟩ ⟨(y 2).val % 128, Nat.mod_lt _ (by decide)⟩

/-! ## One row group -/

/-- The row group's products. -/
def prodU (p u : Vec Ideal S1x512x3072 .fp8e4m3) : FVec Ideal S512x512 .f32 := k0_pay9 (F := Ideal) p u

/-- The row group's logits in each lane group. -/
def xU (p u : Vec Ideal S1x512x3072 .fp8e4m3) (qs : Vec Ideal S512x128 .f32) (s : Fin 4 → Vec Ideal S1x1x128 .f32) : Fin 4 → FVec Ideal S512x128 .f32
  | 0 => k0_pay10 (F := Ideal) p u qs (s 0)
  | 1 => k0_pay12 (F := Ideal) p u qs (s 1)
  | 2 => k0_pay15 (F := Ideal) (k0_pay14 p u qs) (s 2)
  | 3 => k0_pay17 (F := Ideal) (k0_pay9 p u) qs (s 3)

theorem prodU_apply (p u : Vec Ideal S1x512x3072 .fp8e4m3) (a k : Fin 512) :
    prodU p u (ix2 a k) = ∑ d : Fin 3072, (u (ix3 (0 : Fin 1) a d) : EReal) * p (ix3 (0 : Fin 1) k d) := by
  unfold prodU k0_pay9 k0_pay8
  refine (Ideal.matmul_transposedRhs_apply (M := 512) (K := 3072) (N := 512) none _ _ _ a k).trans ?_
  show Ideal.ofBits .f32 0x00000000#32 + _ = _
  rw [Ideal.ofBits_zero_f32, zero_add]
  refine Finset.sum_congr rfl fun d _ => ?_
  rw [shapeCast_apply u _ (ix2 a d) (ix3 (0 : Fin 1) a d) (by simp [Shape.rowMajor_val_two, Shape.rowMajor_val_three]),
    shapeCast_apply p _ (ix2 k d) (ix3 (0 : Fin 1) k d) (by simp [Shape.rowMajor_val_two, Shape.rowMajor_val_three])]

/-- The scales of one lane group, spread over the rows. -/
theorem spread_apply (s : Vec Ideal S1x1x128 .f32) (a : Fin 512) (b : Fin 128) :
    broadcastTo S512x128 (shapeCast S1x128 s shapeCasts_S1x1x128_S1x128) broadcasts_S1x128_S512x128 (ix2 a b) = s (ix3 (0 : Fin 1) (0 : Fin 1) b) := by
  rw [broadcastTo_apply _ _ (ix2 a b) (ix2 (0 : Fin 1) b) (fun d => by match d with | ⟨0, _⟩ => rfl | ⟨1, _⟩ => rfl)]
  exact shapeCast_apply s _ _ (ix3 (0 : Fin 1) (0 : Fin 1) b) (by simp [Shape.rowMajor_val_two, Shape.rowMajor_val_three])

/-- One lane group of the products. -/
theorem slice_apply (X : FVec Ideal S512x512 .f32) (o : Fin 2 → Nat) (h : S512x512.Slices o S512x128) (g : Fin 4) (a : Fin 512) (b : Fin 128)
    (h0 : o 0 = 0) (h1 : o 1 = 128 * g.val) : extractStridedSlice S512x128 o X h (ix2 a b) = X (ix2 a (col g b)) := by
  refine extractStridedSlice_apply (s := S512x512) (t := S512x128) o X h (ix2 a b) (ix2 a (col g b)) (fun d => ?_)
  match d with
  | ⟨0, _⟩ => show a.val = o 0 + a.val; omega
  | ⟨1, _⟩ => show 128 * g.val + b.val = o 1 + b.val; omega

theorem xU_apply (p u : Vec Ideal S1x512x3072 .fp8e4m3) (qs : Vec Ideal S512x128 .f32) (s : Fin 4 → Vec Ideal S1x1x128 .f32) (g : Fin 4) (a : Fin 512) (b : Fin 128) :
    xU p u qs s g (ix2 a b) = ((∑ d : Fin 3072, (u (ix3 (0 : Fin 1) a d) : EReal) * p (ix3 (0 : Fin 1) (col g b) d)) * qs (ix2 a b)) * s g (ix3 (0 : Fin 1) (0 : Fin 1) b) := by
  rw [← prodU_apply p u a (col g b)]
  refine Eq.trans ?_ (congrArg (fun z : EReal => ((prodU p u (ix2 a (col g b)) : EReal) * qs (ix2 a b)) * z) (spread_apply (s g) a b))
  have e : ∀ (o : Fin 2 → Nat) (h : S512x512.Slices o S512x128), o 0 = 0 → o 1 = 128 * g.val →
      extractStridedSlice S512x128 o (prodU p u) h (ix2 a b) = prodU p u (ix2 a (col g b)) := fun o h h0 h1 => slice_apply (prodU p u) o h g a b h0 h1
  match g, e with
  | 0, e => exact congrArg (fun y : EReal => (y * qs (ix2 a b)) * _) (e _ _ rfl rfl)
  | 1, e => exact congrArg (fun y : EReal => (y * qs (ix2 a b)) * _) (e _ _ rfl rfl)
  | 2, e => exact congrArg (fun y : EReal => (y * qs (ix2 a b)) * _) (e _ _ rfl rfl)
  | 3, e => exact congrArg (fun y : EReal => (y * qs (ix2 a b)) * _) (e _ _ rfl rfl)

/-- The row group's new lane maxima. -/
def mU (mo : FVec Ideal S512x128 .f32) (x : Fin 4 → FVec Ideal S512x128 .f32) : FVec Ideal S512x128 .f32 :=
  maximumf (maximumf (maximumf (maximumf mo (x 0)) (x 1)) (x 2)) (x 3)

/-- The row group's new lane sums. -/
def lU (mo lo : FVec Ideal S512x128 .f32) (x : Fin 4 → FVec Ideal S512x128 .f32) : FVec Ideal S512x128 .f32 :=
  addf (addf (addf (addf (mulf lo (exp (subf mo (mU mo x)))) (exp (subf (x 0) (mU mo x)))) (exp (subf (x 1) (mU mo x)))) (exp (subf (x 2) (mU mo x)))) (exp (subf (x 3) (mU mo x)))

theorem mU_apply (mo : FVec Ideal S512x128 .f32) (x : Fin 4 → FVec Ideal S512x128 .f32) (i : S512x128.Idx) : mU mo x i = mx (mo i) fun g => x g i := rfl
theorem lU_apply (mo lo : FVec Ideal S512x128 .f32) (x : Fin 4 → FVec Ideal S512x128 .f32) (i : S512x128.Idx) : lU mo lo x i = sm (mo i) (lo i) fun g => x g i := rfl

section Tiles
variable (x0 : Vec Ideal S1x2048x3072 .fp8e4m3) (x2 : Vec Ideal S1x512x3072 .fp8e4m3) (x3 : Vec Ideal S1x1x512 .f32) (q m0 l0 : Vec Ideal S2048x128 .f32)

/-- The rows of row group `r`. -/
def rowR (r : Fin 4) : Rect S2048x128 :=
  Rect.unit ![512 * r.val, 0] S512x128.size (fun a => by match a with | ⟨0, _⟩ => show 512 * r.val + 512 ≤ 2048; omega | ⟨1, _⟩ => exact le_refl 128)

/-- The queries of row group `r`. -/
def qRows (r : Fin 4) : Vec Ideal S1x512x3072 .fp8e4m3 :=
  View.ld x0 (Rect.unit ![0, 512 * r.val, 0] S1x512x3072.size (fun a => by match a with | ⟨0, _⟩ => exact le_refl 1 | ⟨1, _⟩ => show 512 * r.val + 512 ≤ 2048; omega | ⟨2, _⟩ => exact le_refl 3072) : Rect S1x2048x3072)

/-- The strip of passages. -/
def pAll : Vec Ideal S1x512x3072 .fp8e4m3 := View.ld x2 (Rect.unit ![0, 0, 0] S1x512x3072.size inb_S1x512x3072_S1x512x3072_0_0_0)

/-- The passages' scales in lane group `g`. -/
def sLanes (g : Fin 4) : Vec Ideal S1x1x128 .f32 :=
  View.ld x3 (Rect.unit ![0, 0, 128 * g.val] S1x1x128.size (fun a => by match a with | ⟨0, _⟩ => exact le_refl 1 | ⟨1, _⟩ => exact le_refl 1 | ⟨2, _⟩ => show 128 * g.val + 128 ≤ 512; omega) : Rect S1x1x512)

/-- The logits of row group `r`, lane group by lane group. -/
def xRows (r : Fin 4) : Fin 4 → FVec Ideal S512x128 .f32 := xU (pAll x2) (qRows x0 r) (View.ld q (rowR r)) (sLanes x3)

/-- Row `a` of row group `r`, as a query. -/
def row (r : Fin 4) (a : Fin 512) : Fin 2048 := ⟨512 * r.val + a.val, by omega⟩

theorem rowR_emb (r : Fin 4) (a : Fin 512) (b : Fin 128) : (rowR r).emb (ix2 a b) = ix2 (row r a) b := funext fun d => Fin.ext (by
  match d with
  | ⟨0, _⟩ => show 512 * r.val + 1 * a.val = 512 * r.val + a.val; omega
  | ⟨1, _⟩ => show 0 + 1 * b.val = b.val; omega)

theorem ld_rowR (z : Vec Ideal S2048x128 .f32) (r : Fin 4) (a : Fin 512) (b : Fin 128) : View.ld z (rowR r) (ix2 a b) = z (ix2 (row r a) b) :=
  congrArg z (rowR_emb r a b)

theorem xRows_apply (r g : Fin 4) (a : Fin 512) (b : Fin 128) : xRows x0 x2 x3 q r g (ix2 a b) = lgv x0 x2 x3 q (row r a) g b := by
  unfold xRows lgv
  refine (xU_apply _ _ _ _ g a b).trans ?_
  have e1 : ∀ d : Fin 3072, (qRows x0 r (ix3 (0 : Fin 1) a d) : EReal) = x0 (ix3 (0 : Fin 1) (row r a) d) := fun d =>
    congrArg x0 (funext fun k => Fin.ext (by
      match k with
      | ⟨0, _⟩ => rfl
      | ⟨1, _⟩ => show 512 * r.val + 1 * a.val = 512 * r.val + a.val; omega
      | ⟨2, _⟩ => show 0 + 1 * d.val = d.val; omega))
  have e2 : pAll x2 = x2 := View.ld_unit_zero (S := S1x512x3072) hz3 _ x2
  have e3 : (sLanes x3 g (ix3 (0 : Fin 1) (0 : Fin 1) b) : EReal) = x3 (ix3 (0 : Fin 1) (0 : Fin 1) (col g b)) :=
    congrArg x3 (funext fun k => Fin.ext (by
      match k with
      | ⟨0, _⟩ => rfl
      | ⟨1, _⟩ => rfl
      | ⟨2, _⟩ => show 128 * g.val + 1 * b.val = 128 * g.val + b.val; omega))
  rw [e2, e3, ld_rowR]
  simp only [e1]

/-- The store of row group `r`'s lane maxima. -/
def mTile (r : Fin 4) : View.Piece (Elt Ideal) S2048x128 .f32 :=
  ⟨rowR r, shapeCast S512x128 (mU (View.ld m0 (rowR r)) (xRows x0 x2 x3 q r)) shapeCasts_S512x128_S512x128⟩

/-- The store of row group `r`'s lane sums. -/
def lTile (r : Fin 4) : View.Piece (Elt Ideal) S2048x128 .f32 :=
  ⟨rowR r, shapeCast S512x128 (lU (View.ld m0 (rowR r)) (View.ld l0 (rowR r)) (xRows x0 x2 x3 q r)) shapeCasts_S512x128_S512x128⟩

/-- The store of row group `r`'s logits in lane group `g`. -/
def gTile (r g : Fin 4) : View.Piece (Elt Ideal) S1x2048x512 .f32 :=
  ⟨Rect.unit ![0, 512 * r.val, 128 * g.val] S1x512x128.size (fun a => by match a with | ⟨0, _⟩ => exact le_refl 1 | ⟨1, _⟩ => show 512 * r.val + 512 ≤ 2048; omega | ⟨2, _⟩ => show 128 * g.val + 128 ≤ 512; omega),
    shapeCast S1x512x128 (xRows x0 x2 x3 q r g) shapeCasts_S512x128_S1x512x128⟩

/-- The stores, last first. -/
def mTiles : List (View.Piece (Elt Ideal) S2048x128 .f32) := ([3, 2, 1, 0] : List (Fin 4)).map (mTile x0 x2 x3 q m0)
def lTiles : List (View.Piece (Elt Ideal) S2048x128 .f32) := ([3, 2, 1, 0] : List (Fin 4)).map (lTile x0 x2 x3 q m0 l0)
def gTiles : List (View.Piece (Elt Ideal) S1x2048x512 .f32) :=
  ([3, 2, 1, 0] : List (Fin 4)).flatMap fun r => ([3, 2, 1, 0] : List (Fin 4)).map (gTile x0 x2 x3 q r)

theorem mTile_eq (r : Fin 4) (x : S512x128.Idx) : (mTile x0 x2 x3 q m0 r).2 x = mNew x0 x2 x3 q m0 ((mTile x0 x2 x3 q m0 r).1.emb x) := by
  obtain ⟨a, b, rfl⟩ : ∃ a b, x = ix2 a b := ⟨_, _, eq_ix2 x⟩
  refine Eq.trans ?_ (congrArg (mNew x0 x2 x3 q m0) (rowR_emb r a b)).symm
  unfold mTile mNew
  dsimp only
  rw [shapeCast_self]
  exact congrArg₂ mx (ld_rowR m0 r a b) (funext fun g => xRows_apply x0 x2 x3 q r g a b)

theorem lTile_eq (r : Fin 4) (x : S512x128.Idx) : (lTile x0 x2 x3 q m0 l0 r).2 x = lNew x0 x2 x3 q m0 l0 ((lTile x0 x2 x3 q m0 l0 r).1.emb x) := by
  obtain ⟨a, b, rfl⟩ : ∃ a b, x = ix2 a b := ⟨_, _, eq_ix2 x⟩
  refine Eq.trans ?_ (congrArg (lNew x0 x2 x3 q m0 l0) (rowR_emb r a b)).symm
  unfold lTile lNew
  dsimp only
  rw [shapeCast_self]
  have e : (fun g => xRows x0 x2 x3 q r g (ix2 a b)) = fun g => lgv x0 x2 x3 q (row r a) g b := funext fun g => xRows_apply x0 x2 x3 q r g a b
  refine (lU_apply _ _ _ _).trans ?_
  exact (congrArg (fun z => sm (View.ld m0 (rowR r) (ix2 a b)) (View.ld l0 (rowR r) (ix2 a b)) z) e).trans
    (congrArg₂ (fun y z : EReal => sm y z fun g => lgv x0 x2 x3 q (row r a) g b) (ld_rowR m0 r a b) (ld_rowR l0 r a b))

theorem gTile_eq (r g : Fin 4) (x : S1x512x128.Idx) : (gTile x0 x2 x3 q r g).2 x = lgBlock x0 x2 x3 q ((gTile x0 x2 x3 q r g).1.emb x) := by
  obtain ⟨z, a, b, rfl⟩ : ∃ z a b, x = ix3 z a b := ⟨_, _, _, eq_ix3 x⟩
  have e : (gTile x0 x2 x3 q r g).1.emb (ix3 z a b) = ix3 (0 : Fin 1) (row r a) (col g b) := funext fun d => Fin.ext (by
    match d with
    | ⟨0, _⟩ => show 0 + 1 * z.val = 0; omega
    | ⟨1, _⟩ => show 512 * r.val + 1 * a.val = 512 * r.val + a.val; omega
    | ⟨2, _⟩ => show 128 * g.val + 1 * b.val = 128 * g.val + b.val; omega)
  refine Eq.trans ?_ (congrArg (lgBlock x0 x2 x3 q) e).symm
  show shapeCast S1x512x128 (xRows x0 x2 x3 q r g) shapeCasts_S512x128_S1x512x128 (ix3 z a b) = _
  refine (shapeCast_apply _ _ _ (ix2 a b) (by have := z.isLt; simp [Shape.rowMajor_val_two, Shape.rowMajor_val_three])).trans ?_
  rw [xRows_apply]
  unfold lgBlock
  have hg : (⟨(col g b).val / 128, by have := (col g b).isLt; omega⟩ : Fin 4) = g := Fin.ext (by show (128 * g.val + b.val) / 128 = g.val; omega)
  have hb : (⟨(col g b).val % 128, Nat.mod_lt _ (by decide)⟩ : Fin 128) = b := Fin.ext (by show (128 * g.val + b.val) % 128 = b.val; omega)
  exact congrArg₂ (fun g b => lgv x0 x2 x3 q (row r a) g b) hg.symm hb.symm

theorem canon_m (L' : List (View.Piece (Elt Ideal) S2048x128 .f32)) : View.canon (mTiles x0 x2 x3 q m0 ++ L') = mNew x0 x2 x3 q m0 :=
  funext fun y => View.canon_append_of_pieces _ L' _
    (fun p hp x => by
      obtain ⟨r, -, rfl⟩ := List.mem_map.mp hp
      exact mTile_eq x0 x2 x3 q m0 r x) y
    (View.cover_of_tiledL (mTiles x0 x2 x3 q m0) S512x128.size (by sl_kernel_rfl) y)

theorem canon_l (L' : List (View.Piece (Elt Ideal) S2048x128 .f32)) : View.canon (lTiles x0 x2 x3 q m0 l0 ++ L') = lNew x0 x2 x3 q m0 l0 :=
  funext fun y => View.canon_append_of_pieces _ L' _
    (fun p hp x => by
      obtain ⟨r, -, rfl⟩ := List.mem_map.mp hp
      exact lTile_eq x0 x2 x3 q m0 l0 r x) y
    (View.cover_of_tiledL (lTiles x0 x2 x3 q m0 l0) S512x128.size (by sl_kernel_rfl) y)

theorem canon_g : View.canon (gTiles x0 x2 x3 q) = lgBlock x0 x2 x3 q :=
  funext fun y => View.canon_apply_of_pieces _ _
    (fun p hp x => by
      obtain ⟨r, -, hp⟩ := List.mem_flatMap.mp hp
      obtain ⟨g, -, rfl⟩ := List.mem_map.mp hp
      exact gTile_eq x0 x2 x3 q r g x) y
    (View.cover_of_tiledL (gTiles x0 x2 x3 q) S1x512x128.size (by sl_kernel_rfl) y)

/-- The stored lane maxima and sums, loaded whole. -/
theorem load_m {sig' : RefSig} {κ : Kind} {sp : Space} (v : View sig' κ sp S2048x128 .f32) (L : List (View.Piece (Elt Ideal) S2048x128 .f32))
    (h : L = mTiles x0 x2 x3 q m0) (inb) : v.readCov L (Rect.unit ![0, 0] S2048x128.size inb).toLoadRect = mNew x0 x2 x3 q m0 := by
  subst h
  rw [View.readCov_eq_canon', ← List.append_nil (mTiles x0 x2 x3 q m0), canon_m]
  exact View.ld_unit_zero (S := S2048x128) hz2 inb (mNew x0 x2 x3 q m0)

theorem load_l {sig' : RefSig} {κ : Kind} {sp : Space} (v : View sig' κ sp S2048x128 .f32) (L : List (View.Piece (Elt Ideal) S2048x128 .f32))
    (h : L = lTiles x0 x2 x3 q m0 l0) (inb) : v.readCov L (Rect.unit ![0, 0] S2048x128.size inb).toLoadRect = lNew x0 x2 x3 q m0 l0 := by
  subst h
  rw [View.readCov_eq_canon', ← List.append_nil (lTiles x0 x2 x3 q m0 l0), canon_l]
  exact View.ld_unit_zero (S := S2048x128) hz2 inb (lNew x0 x2 x3 q m0 l0)

end Tiles

/-- After a fill of the whole array, a load of any part reads the fill. -/
theorem fill {sig' : RefSig} {κ : Kind} {sp : Space} (v : View sig' κ sp S2048x128 .f32) (Z : Vec Ideal S2048x128 .f32) (L : List (View.Piece (Elt Ideal) S2048x128 .f32))
    (inb) (r : Rect S2048x128) :
    v.readCov ((⟨Rect.unit ![0, 0] ![2048, 128] inb, Z⟩ : View.Piece (Elt Ideal) S2048x128 .f32) :: L) r.toLoadRect = View.ld Z r :=
  View.readCov_fill (s := S2048x128) v inb Z L r (fun a => congrFun hz2 a)

/-- A load of later rows does not see a store of earlier ones. -/
theorem skip {sig' : RefSig} {κ : Kind} {sp : Space} (v : View sig' κ sp S2048x128 .f32) (o o' : Nat) (h : o + 512 ≤ o') (inb) (inb')
    (w : Vec Ideal S512x128 .f32) (L : List (View.Piece (Elt Ideal) S2048x128 .f32)) :
    v.readCov ((⟨Rect.unit ![o, 0] ![512, 128] inb, w⟩ : View.Piece (Elt Ideal) S2048x128 .f32) :: L) (Rect.unit (s := S2048x128) ![o', 0] ![512, 128] inb').toLoadRect
      = v.readCov L (Rect.unit (s := S2048x128) ![o', 0] ![512, 128] inb').toLoadRect :=
  View.readCov_cons_of_disjoint v _ L _ (Rect.unit_disjoint (inb := inb) (inb' := inb') 0 (.inl h))

theorem whole1 (x1 : Vec Ideal S1x1x2048 .f32) (inb) : View.ld x1 (Rect.unit ![0, 0, 0] ![1, 1, 2048] inb : Rect S1x1x2048) = x1 :=
  View.ld_unit_zero (S := S1x1x2048) hz3 inb x1

/-! ## The log-sum-exp of a row of lanes -/

/-- The greatest lane of a row. -/
def laneMax (M : Vec Ideal S2048x128 .f32) (a : Fin 2048) : EReal :=
  (Finset.univ : Finset (Fin 128)).fold max (Ideal.ofBits .f32 0xFF800000#32) fun b => M (ix2 a b)

/-- The log-sum-exp of a row, from its lane maxima and lane sums. -/
def lseF (M L : Vec Ideal S2048x128 .f32) (a : Fin 2048) : EReal :=
  laneMax M a + Ideal.log (∑ b : Fin 128, (L (ix2 a b) : EReal) * Ideal.exp (M (ix2 a b) - laneMax M a))

theorem lift_col (a : Fin 2048) (b : Fin 128) : reduces_S128x2048_S2048.lift (ix1 a) b = ix2 b a :=
  funext fun d => Fin.ext (by match d with | ⟨0, _⟩ => rfl | ⟨1, _⟩ => rfl)

theorem turn_apply (M : Vec Ideal S2048x128 .f32) (a : Fin 2048) (b : Fin 128) :
    transpose S128x2048 [1, 0] M transposes_S2048x128_p1_0_S128x2048 (ix2 b a) = M (ix2 a b) :=
  transpose_apply _ _ _ (ix2 b a) (ix2 a b) (fun d => by match d with | ⟨0, _⟩ => rfl | ⟨1, _⟩ => rfl)

theorem laneMax_apply (M : Vec Ideal S2048x128 .f32) (a : Fin 2048) :
    multiReduction (F := Ideal) (φ := .f32) .maximumf [0] S2048 (transpose S128x2048 [1, 0] M transposes_S2048x128_p1_0_S128x2048) 0xFF800000#32 reduces_S128x2048_S2048 (.inl rfl) rfl (ix1 a)
      = laneMax M a := by
  refine (Ideal.multiReduction_maximumf_single _ _ _ _ _ (ix1 a)).trans ?_
  refine congrArg (fun f => (Finset.univ : Finset (Fin 128)).fold max (Ideal.ofBits .f32 0xFF800000#32) f) (funext fun b => ?_)
  exact (congrArg (transpose S128x2048 [1, 0] M transposes_S2048x128_p1_0_S128x2048) (lift_col a b)).trans (turn_apply M a b)

theorem pay4_apply (M L : Vec Ideal S2048x128 .f32) (y : S1x1x2048.Idx) : k0_pay4 (F := Ideal) M L y = lseF M L (y 2) := by
  obtain ⟨z, z', a, rfl⟩ : ∃ z z' a, y = ix3 z z' a := ⟨_, _, _, eq_ix3 y⟩
  have hz : z.val = 0 := by omega
  have hz' : z'.val = 0 := by omega
  have e2 : ∀ (X : FVec Ideal S2048 .f32) (w : Fin 1), shapeCast S1x2048 X shapeCasts_S2048_S1x2048 (ix2 w a) = X (ix1 a) := fun X w =>
    shapeCast_apply X _ _ (ix1 a) (by have := w.isLt; simp [Shape.rowMajor_val_two, Shape.rowMajor_val_one])
  unfold k0_pay4
  refine (shapeCast_apply _ _ _ (ix2 (0 : Fin 1) a) (by simp [Shape.rowMajor_val_two, Shape.rowMajor_val_three, hz, hz'])).trans ?_
  unfold lseF
  refine congrArg₂ (fun p q : EReal => p + Ideal.log q) ((e2 _ _).trans (laneMax_apply M a)) ((e2 _ _).trans ?_)
  refine (Ideal.multiReduction_add_single _ _ _ _ _ (ix1 a)).trans (Finset.sum_congr rfl fun b _ => ?_)
  refine (congrArg _ (lift_col a b)).trans ?_
  refine congrArg₂ (fun p q : EReal => p * Ideal.exp q) (turn_apply L a b) (congrArg₂ (fun p q : EReal => p - q) (turn_apply M a b) ?_)
  refine (broadcastTo_apply _ _ (ix2 b a) (ix2 (0 : Fin 1) a) (fun d => by match d with | ⟨0, _⟩ => rfl | ⟨1, _⟩ => rfl)).trans ?_
  exact (e2 _ _).trans (laneMax_apply M a)

section Cases
variable (c : Dev nD) (i : grid0.Coords) (a2 : Memref sig .tc .vmem S1x2048x3072 .fp8e4m3) (h2 : a2.IsWhole)
  (a3 : Memref sig .tc .vmem S1x1x2048 .f32) (h3 : a3.IsWhole)
  (a4 : Memref sig .tc .vmem S1x512x3072 .fp8e4m3) (h4 : a4.IsWhole)
  (a5 : Memref sig .tc .vmem S1x1x512 .f32) (h5 : a5.IsWhole)
  (a6 : Memref sig .tc .vmem S1x2048x512 .f32) (h6 : a6.IsWhole)
  (a7 : Memref sig .tc .vmem S1x1x2048 .f32) (h7 : a7.IsWhole)
  (a8 : Memref sig .tc .vmem S2048x128 .f32) (h8 : a8.IsWhole)
  (a9 : Memref sig .tc .vmem S2048x128 .f32) (h9 : a9.IsWhole)
  (a10 : Memref sig .tc .vmem S2048x128 .f32) (h10 : a10.IsWhole)
  (x0 : Vec Ideal S1x2048x3072 .fp8e4m3) (x1 : Vec Ideal S1x1x2048 .f32) (x2 : Vec Ideal S1x512x3072 .fp8e4m3) (x3 : Vec Ideal S1x1x512 .f32)
  (m0 l0 q0 : Vec Ideal S2048x128 .f32)

theorem soutm_B (hc0 : ¬cond0_0 i) (hc1 : ¬cond0_1 i) : sout0_B_0 (F := Ideal) c i a2 h2 a3 h3 a4 h4 a5 h5 a6 h6 a7 h7 a8 h8 a9 h9 a10 h10 hc0 hc1 x0 x1 x2 x3 m0 l0 q0 = mNew x0 x2 x3 q0 m0 := by
  unfold sout0_B_0
  rw [View.read_writes_eq_canon _ _ _ (scover0_B_0 c i a2 h2 a3 h3 a4 h4 a5 h5 a6 h6 a7 h7 a8 h8 a9 h9 a10 h10 hc0 hc1 x0 x1 x2 x3 m0 l0 q0)]
  unfold kernelRun0_B
  dsimp only
  sl_unfold_words
  simp only [View.readAt_eq_ld, h2.read_unread, h4.read_unread, h5.read_unread, h8.read_unread, h9.read_unread, h10.read_unread]
  exact canon_m x0 x2 x3 q0 m0 []

theorem soutl_B (hc0 : ¬cond0_0 i) (hc1 : ¬cond0_1 i) : sout0_B_1 (F := Ideal) c i a2 h2 a3 h3 a4 h4 a5 h5 a6 h6 a7 h7 a8 h8 a9 h9 a10 h10 hc0 hc1 x0 x1 x2 x3 m0 l0 q0 = lNew x0 x2 x3 q0 m0 l0 := by
  unfold sout0_B_1
  rw [View.read_writes_eq_canon _ _ _ (scover0_B_1 c i a2 h2 a3 h3 a4 h4 a5 h5 a6 h6 a7 h7 a8 h8 a9 h9 a10 h10 hc0 hc1 x0 x1 x2 x3 m0 l0 q0)]
  unfold kernelRun0_B
  dsimp only
  sl_unfold_words
  simp only [View.readAt_eq_ld, h2.read_unread, h4.read_unread, h5.read_unread, h8.read_unread, h9.read_unread, h10.read_unread]
  exact canon_l x0 x2 x3 q0 m0 l0 []

theorem outg_B (hc0 : ¬cond0_0 i) (hc1 : ¬cond0_1 i) : out0_B_4 (F := Ideal) c i a2 h2 a3 h3 a4 h4 a5 h5 a6 h6 a7 h7 a8 h8 a9 h9 a10 h10 hc0 hc1 x0 x1 x2 x3 m0 l0 q0 = lgBlock x0 x2 x3 q0 := by
  unfold out0_B_4
  rw [View.read_writes_eq_canon _ _ _ (cover0_B_4 c i a2 h2 a3 h3 a4 h4 a5 h5 a6 h6 a7 h7 a8 h8 a9 h9 a10 h10 hc0 hc1 x0 x1 x2 x3 m0 l0 q0)]
  unfold kernelRun0_B
  dsimp only
  sl_unfold_words
  simp only [View.readAt_eq_ld, h2.read_unread, h4.read_unread, h5.read_unread, h8.read_unread, h9.read_unread, h10.read_unread]
  exact canon_g x0 x2 x3 q0

theorem soutm_C (hc0 : ¬cond0_0 i) (hc1 : cond0_1 i) : sout0_C_0 (F := Ideal) c i a2 h2 a3 h3 a4 h4 a5 h5 a6 h6 a7 h7 a8 h8 a9 h9 a10 h10 hc0 hc1 x0 x1 x2 x3 m0 l0 q0 = mNew x0 x2 x3 q0 m0 := by
  unfold sout0_C_0
  rw [View.read_writes_eq_canon _ _ _ (scover0_C_0 c i a2 h2 a3 h3 a4 h4 a5 h5 a6 h6 a7 h7 a8 h8 a9 h9 a10 h10 hc0 hc1 x0 x1 x2 x3 m0 l0 q0)]
  unfold kernelRun0_C
  dsimp only
  sl_unfold_words
  simp only [View.readAt_eq_ld, h2.read_unread, h4.read_unread, h5.read_unread, h8.read_unread, h9.read_unread, h10.read_unread]
  exact canon_m x0 x2 x3 q0 m0 []

theorem soutl_C (hc0 : ¬cond0_0 i) (hc1 : cond0_1 i) : sout0_C_1 (F := Ideal) c i a2 h2 a3 h3 a4 h4 a5 h5 a6 h6 a7 h7 a8 h8 a9 h9 a10 h10 hc0 hc1 x0 x1 x2 x3 m0 l0 q0 = lNew x0 x2 x3 q0 m0 l0 := by
  unfold sout0_C_1
  rw [View.read_writes_eq_canon _ _ _ (scover0_C_1 c i a2 h2 a3 h3 a4 h4 a5 h5 a6 h6 a7 h7 a8 h8 a9 h9 a10 h10 hc0 hc1 x0 x1 x2 x3 m0 l0 q0)]
  unfold kernelRun0_C
  dsimp only
  sl_unfold_words
  simp only [View.readAt_eq_ld, h2.read_unread, h4.read_unread, h5.read_unread, h8.read_unread, h9.read_unread, h10.read_unread]
  exact canon_l x0 x2 x3 q0 m0 l0 []

theorem outg_C (hc0 : ¬cond0_0 i) (hc1 : cond0_1 i) : out0_C_4 (F := Ideal) c i a2 h2 a3 h3 a4 h4 a5 h5 a6 h6 a7 h7 a8 h8 a9 h9 a10 h10 hc0 hc1 x0 x1 x2 x3 m0 l0 q0 = lgBlock x0 x2 x3 q0 := by
  unfold out0_C_4
  rw [View.read_writes_eq_canon _ _ _ (cover0_C_4 c i a2 h2 a3 h3 a4 h4 a5 h5 a6 h6 a7 h7 a8 h8 a9 h9 a10 h10 hc0 hc1 x0 x1 x2 x3 m0 l0 q0)]
  unfold kernelRun0_C
  dsimp only
  sl_unfold_words
  simp only [View.readAt_eq_ld, h2.read_unread, h4.read_unread, h5.read_unread, h8.read_unread, h9.read_unread, h10.read_unread]
  exact canon_g x0 x2 x3 q0

theorem soutm_A (hc0 : cond0_0 i) (hc1 : ¬cond0_1 i) : sout0_A_0 (F := Ideal) c i a2 h2 a3 h3 a4 h4 a5 h5 a6 h6 a7 h7 a8 h8 a9 h9 a10 h10 hc0 hc1 x0 x1 x2 x3 = mNew x0 x2 x3 (k0_pay7 (F := Ideal) x1) (k0_pay5 (F := Ideal)) := by
  unfold sout0_A_0
  rw [View.read_writes_eq_canon _ _ _ (scover0_A_0 c i a2 h2 a3 h3 a4 h4 a5 h5 a6 h6 a7 h7 a8 h8 a9 h9 a10 h10 hc0 hc1 x0 x1 x2 x3)]
  unfold kernelRun0_A
  dsimp only
  sl_unfold_words
  simp only [↓skip _ 0 512 (by decide), ↓skip _ 0 1024 (by decide), ↓skip _ 0 1536 (by decide), ↓skip _ 512 1024 (by decide), ↓skip _ 512 1536 (by decide),
    ↓skip _ 1024 1536 (by decide), fill, View.readAt_eq_ld, h2.read_unread, h3.read_unread, h4.read_unread, h5.read_unread, whole1]
  exact canon_m x0 x2 x3 (k0_pay7 (F := Ideal) x1) (k0_pay5 (F := Ideal)) [_]

theorem soutl_A (hc0 : cond0_0 i) (hc1 : ¬cond0_1 i) : sout0_A_1 (F := Ideal) c i a2 h2 a3 h3 a4 h4 a5 h5 a6 h6 a7 h7 a8 h8 a9 h9 a10 h10 hc0 hc1 x0 x1 x2 x3 = lNew x0 x2 x3 (k0_pay7 (F := Ideal) x1) (k0_pay5 (F := Ideal)) (k0_pay6 (F := Ideal)) := by
  unfold sout0_A_1
  rw [View.read_writes_eq_canon _ _ _ (scover0_A_1 c i a2 h2 a3 h3 a4 h4 a5 h5 a6 h6 a7 h7 a8 h8 a9 h9 a10 h10 hc0 hc1 x0 x1 x2 x3)]
  unfold kernelRun0_A
  dsimp only
  sl_unfold_words
  simp only [↓skip _ 0 512 (by decide), ↓skip _ 0 1024 (by decide), ↓skip _ 0 1536 (by decide), ↓skip _ 512 1024 (by decide), ↓skip _ 512 1536 (by decide),
    ↓skip _ 1024 1536 (by decide), fill, View.readAt_eq_ld, h2.read_unread, h3.read_unread, h4.read_unread, h5.read_unread, whole1]
  exact canon_l x0 x2 x3 (k0_pay7 (F := Ideal) x1) (k0_pay5 (F := Ideal)) (k0_pay6 (F := Ideal)) [_]

theorem outg_A (hc0 : cond0_0 i) (hc1 : ¬cond0_1 i) : out0_A_4 (F := Ideal) c i a2 h2 a3 h3 a4 h4 a5 h5 a6 h6 a7 h7 a8 h8 a9 h9 a10 h10 hc0 hc1 x0 x1 x2 x3 = lgBlock x0 x2 x3 (k0_pay7 (F := Ideal) x1) := by
  unfold out0_A_4
  rw [View.read_writes_eq_canon _ _ _ (cover0_A_4 c i a2 h2 a3 h3 a4 h4 a5 h5 a6 h6 a7 h7 a8 h8 a9 h9 a10 h10 hc0 hc1 x0 x1 x2 x3)]
  unfold kernelRun0_A
  dsimp only
  sl_unfold_words
  simp only [↓skip _ 0 512 (by decide), ↓skip _ 0 1024 (by decide), ↓skip _ 0 1536 (by decide), ↓skip _ 512 1024 (by decide), ↓skip _ 512 1536 (by decide),
    ↓skip _ 1024 1536 (by decide), fill, View.readAt_eq_ld, h2.read_unread, h3.read_unread, h4.read_unread, h5.read_unread, whole1]
  exact canon_g x0 x2 x3 (k0_pay7 (F := Ideal) x1)

theorem soutq_A (hc0 : cond0_0 i) (hc1 : ¬cond0_1 i) : sout0_A_2 (F := Ideal) c i a2 h2 a3 h3 a4 h4 a5 h5 a6 h6 a7 h7 a8 h8 a9 h9 a10 h10 hc0 hc1 x0 x1 x2 x3 = k0_pay7 (F := Ideal) x1 := by
  unfold sout0_A_2
  rw [View.read_writes_eq_canon _ _ _ (scover0_A_2 c i a2 h2 a3 h3 a4 h4 a5 h5 a6 h6 a7 h7 a8 h8 a9 h9 a10 h10 hc0 hc1 x0 x1 x2 x3)]
  unfold kernelRun0_A
  dsimp only
  sl_unfold_words
  rw [View.canon_unit_zero (S := S2048x128) hz2]
  simp only [View.readAt_eq_ld, h3.read_unread, whole1]

theorem soutq_B (hc0 : ¬cond0_0 i) (hc1 : ¬cond0_1 i) : sout0_B_2 (F := Ideal) c i a2 h2 a3 h3 a4 h4 a5 h5 a6 h6 a7 h7 a8 h8 a9 h9 a10 h10 hc0 hc1 x0 x1 x2 x3 m0 l0 q0 = q0 := by
  unfold sout0_B_2
  rfl

theorem soutq_C (hc0 : ¬cond0_0 i) (hc1 : cond0_1 i) : sout0_C_2 (F := Ideal) c i a2 h2 a3 h3 a4 h4 a5 h5 a6 h6 a7 h7 a8 h8 a9 h9 a10 h10 hc0 hc1 x0 x1 x2 x3 m0 l0 q0 = q0 := by
  unfold sout0_C_2
  rfl

theorem outlse_C (hc0 : ¬cond0_0 i) (hc1 : cond0_1 i) (y : S1x1x2048.Idx) :
    out0_C_5 (F := Ideal) c i a2 h2 a3 h3 a4 h4 a5 h5 a6 h6 a7 h7 a8 h8 a9 h9 a10 h10 hc0 hc1 x0 x1 x2 x3 m0 l0 q0 y = lseF (mNew x0 x2 x3 q0 m0) (lNew x0 x2 x3 q0 m0 l0) (y 2) := by
  unfold out0_C_5
  rw [View.read_writes_eq_canon _ _ _ (cover0_C_5 c i a2 h2 a3 h3 a4 h4 a5 h5 a6 h6 a7 h7 a8 h8 a9 h9 a10 h10 hc0 hc1 x0 x1 x2 x3 m0 l0 q0)]
  unfold kernelRun0_C
  dsimp only
  sl_unfold_words
  rw [View.canon_unit_zero hz3]
  simp only [View.readAt_eq_ld, h2.read_unread, h4.read_unread, h5.read_unread, h8.read_unread, h9.read_unread, h10.read_unread]
  refine Eq.trans (congrFun (congrArg₂ (k0_pay4 (F := Ideal)) (load_m x0 x2 x3 q0 m0 _ _ ?_ _) (load_l x0 x2 x3 q0 m0 l0 _ _ ?_ _)) y) (pay4_apply _ _ y)
  · rfl
  · rfl

end Cases

end Cert.LogitsIdeal.Block
end
-- ==== Proof.Logits.Lse.lean ====
/- The running maximum and sum over the extended reals. A lane starts from `⊥` and `0` and takes four values at a time;
   its sum is the sum of `exp (x - m)` over everything it has seen, `m` its maximum. Rescaling lane sums to a row maximum
   gives the row's sum. No value is excluded: rows of `⊥` and rows that reach `⊤` come out the same on both sides. -/
module

public import proofs.«01_k».proof.Proof.Logits.Block

@[expose] public section
noncomputable section
namespace Cert.LogitsIdeal.Lse
open Cert.LogitsIdeal.Block Idealize.ShloMosaic

theorem exp_nonneg (x : EReal) : 0 ≤ Ideal.exp x := by
  induction x with
  | bot => exact le_refl _
  | top => exact le_top
  | coe r => exact EReal.coe_nonneg.mpr (Real.exp_pos r).le

theorem sub_top' (x : EReal) : x - ⊤ = ⊥ := by rw [sub_eq_add_neg, EReal.neg_top, EReal.add_bot]
theorem bot_sub' (x : EReal) : ⊥ - x = ⊥ := by rw [sub_eq_add_neg, EReal.bot_add]

/-- Two rescalings in a row are one. -/
theorem exp_chain (x m M : EReal) (hx : x ≤ m) (hm : m ≤ M) : Ideal.exp (x - m) * Ideal.exp (m - M) = Ideal.exp (x - M) := by
  induction M with
  | top => rw [sub_top', sub_top', Ideal.exp_bot, mul_zero]
  | bot =>
    obtain rfl : m = ⊥ := le_bot_iff.mp hm
    obtain rfl : x = ⊥ := le_bot_iff.mp hx
    rw [bot_sub', Ideal.exp_bot, mul_zero]
  | coe M =>
    induction m with
    | top => exact absurd hm (not_le.mpr (EReal.coe_lt_top M))
    | bot =>
      obtain rfl : x = ⊥ := le_bot_iff.mp hx
      rw [bot_sub', bot_sub', Ideal.exp_bot, mul_zero]
    | coe m =>
      induction x with
      | top => exact absurd hx (not_le.mpr (EReal.coe_lt_top m))
      | bot => rw [bot_sub', bot_sub', Ideal.exp_bot, zero_mul]
      | coe x =>
        show ((Real.exp (x - m) : ℝ) : EReal) * ((Real.exp (m - M) : ℝ) : EReal) = ((Real.exp (x - M) : ℝ) : EReal)
        rw [← EReal.coe_mul, ← Real.exp_add, sub_add_sub_cancel]

/-- A product distributes over a sum of nonnegative terms. -/
theorem sum_mul' {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

variable (y : ℕ → Fin 4 → EReal)

/-- A lane's maximum and sum after `n` strips. -/
def mSeq : ℕ → EReal
  | 0 => ⊥
  | n + 1 => mx (mSeq n) (y n)
def lSeq : ℕ → EReal
  | 0 => 0
  | n + 1 => sm (mSeq y n) (lSeq n) (y n)

theorem le_mx (mo : EReal) (x : Fin 4 → EReal) : mo ≤ mx mo x :=
  le_max_of_le_left (le_max_of_le_left (le_max_of_le_left (le_max_left _ _)))

theorem mx_le_iff (mo : EReal) (x : Fin 4 → EReal) (c : EReal) : mx mo x ≤ c ↔ mo ≤ c ∧ ∀ g, x g ≤ c := by
  unfold mx
  rw [max_le_iff, max_le_iff, max_le_iff, max_le_iff]
  constructor
  · rintro ⟨⟨⟨⟨h, h0⟩, h1⟩, h2⟩, h3⟩
    exact ⟨h, fun g => by match g with | 0 => exact h0 | 1 => exact h1 | 2 => exact h2 | 3 => exact h3⟩
  · rintro ⟨h, hg⟩
    exact ⟨⟨⟨⟨h, hg 0⟩, hg 1⟩, hg 2⟩, hg 3⟩

theorem mSeq_le_iff (c : EReal) : ∀ n, mSeq y n ≤ c ↔ ∀ s < n, ∀ g, y s g ≤ c
  | 0 => ⟨fun _ s hs => absurd hs (Nat.not_lt_zero s), fun _ => bot_le⟩
  | n + 1 => by
    rw [mSeq, mx_le_iff, mSeq_le_iff c n]
    constructor
    · rintro ⟨h, hn⟩ s hs g
      rcases Nat.lt_succ_iff_lt_or_eq.mp hs with hs | rfl
      · exact h s hs g
      · exact hn g
    · exact fun h => ⟨fun s hs => h s (Nat.lt_succ_of_lt hs), h n (Nat.lt_succ_self n)⟩

theorem le_mSeq (n s : ℕ) (hs : s < n) (g : Fin 4) : y s g ≤ mSeq y n := (mSeq_le_iff y _ n).mp le_rfl s hs g

/-- The running sum is the sum of the exponentials seen so far, -/
theorem lSeq_eq : ∀ n, lSeq y n = ∑ s ∈ Finset.range n, ∑ g : Fin 4, Ideal.exp (y s g - mSeq y n)
  | 0 => by rw [Finset.sum_range_zero]; rfl
  | n + 1 => by
    have e : lSeq y n * Ideal.exp (mSeq y n - mSeq y (n + 1)) = ∑ s ∈ Finset.range n, ∑ g : Fin 4, Ideal.exp (y s g - mSeq y (n + 1)) := by
      rw [lSeq_eq n, sum_mul' _ _ (fun s => Finset.sum_nonneg fun g _ => exp_nonneg _)]
      refine Finset.sum_congr rfl fun s hs => ?_
      rw [sum_mul' _ _ (fun g => exp_nonneg _)]
      exact Finset.sum_congr rfl fun g _ => exp_chain _ _ _ (le_mSeq y n s (Finset.mem_range.mp hs) g) (le_mx _ _)
    rw [Finset.sum_range_succ, ← e, Fin.sum_univ_four, ← add_assoc, ← add_assoc, ← add_assoc]
    rfl

/-- and stays so when it is rescaled to a greater maximum. -/
theorem lSeq_mul (n : ℕ) (M : EReal) (hM : mSeq y n ≤ M) :
    lSeq y n * Ideal.exp (mSeq y n - M) = ∑ s ∈ Finset.range n, ∑ g : Fin 4, Ideal.exp (y s g - M) := by
  rw [lSeq_eq, sum_mul' _ _ (fun s => Finset.sum_nonneg fun g _ => exp_nonneg _)]
  refine Finset.sum_congr rfl fun s hs => ?_
  rw [sum_mul' _ _ (fun g => exp_nonneg _)]
  exact Finset.sum_congr rfl fun g _ => exp_chain _ _ _ (le_mSeq y n s (Finset.mem_range.mp hs) g) hM

/-! ## A row of 128 lanes -/

theorem neg_inf : Ideal.ofBits .f32 0xFF800000#32 = ⊥ := by simp [Ideal.ofBits, Ideal.ieee]

/-- The greatest element of a row. -/
def rowMax {n : ℕ} (X : Fin n → EReal) : EReal := (Finset.univ : Finset (Fin n)).fold max (Ideal.ofBits .f32 0xFF800000#32) X

theorem rowMax_le_iff {n : ℕ} (X : Fin n → EReal) (c : EReal) : rowMax X ≤ c ↔ ∀ k, X k ≤ c := by
  unfold rowMax
  rw [Finset.fold_max_le, neg_inf]
  exact ⟨fun h k => h.2 k (Finset.mem_univ k), fun h => ⟨bot_le, fun k _ => h k⟩⟩

/-- Passage `512 s + 128 g + b`. -/
def pas (s : Fin 16) (g : Fin 4) (b : Fin 128) : Fin 8192 := ⟨512 * s.val + 128 * g.val + b.val, by omega⟩

theorem pas_cover (k : Fin 8192) : ∃ s g b, k = pas s g b :=
  ⟨⟨k.val / 512, by omega⟩, ⟨k.val % 512 / 128, by omega⟩, ⟨k.val % 128, by omega⟩, Fin.ext (by show k.val = 512 * (k.val / 512) + 128 * (k.val % 512 / 128) + k.val % 128; omega)⟩

/-- A sum over the passages, lane by lane. -/
theorem sum_pas (f : Fin 8192 → EReal) : ∑ k, f k = ∑ b : Fin 128, ∑ s : Fin 16, ∑ g : Fin 4, f (pas s g b) := by
  rw [← Equiv.sum_comp (finProdFinEquiv (m := 16) (n := 512)) f, Fintype.sum_prod_type]
  have e : ∀ s : Fin 16, ∑ k : Fin 512, f (finProdFinEquiv (s, k)) = ∑ b : Fin 128, ∑ g : Fin 4, f (pas s g b) := fun s => by
    rw [← Equiv.sum_comp (finProdFinEquiv (m := 4) (n := 128)) (fun k => f (finProdFinEquiv (s, k))), Fintype.sum_prod_type, Finset.sum_comm]
    refine Finset.sum_congr rfl fun b _ => Finset.sum_congr rfl fun g _ => congrArg f (Fin.ext ?_)
    rw [finProdFinEquiv_apply_val, finProdFinEquiv_apply_val]
    show b.val + 128 * g.val + 512 * s.val = 512 * s.val + 128 * g.val + b.val
    omega
  rw [Finset.sum_congr rfl fun s _ => e s, Finset.sum_comm]

/-- The lanes' maxima and sums give the row's: the log-sum-exp of the lanes is the row's own. -/
theorem row_eq (X : Fin 8192 → EReal) (Y : Fin 128 → ℕ → Fin 4 → EReal) (hY : ∀ b (s : Fin 16) g, Y b s.val g = X (pas s g b)) :
    rowMax (fun b => mSeq (Y b) 16) = rowMax X
      ∧ ∑ b : Fin 128, lSeq (Y b) 16 * Ideal.exp (mSeq (Y b) 16 - rowMax fun b => mSeq (Y b) 16) = ∑ k, Ideal.exp (X k - rowMax X) := by
  have hM : rowMax (fun b => mSeq (Y b) 16) = rowMax X := by
    refine le_antisymm ((rowMax_le_iff _ _).mpr fun b => (mSeq_le_iff _ _ _).mpr fun s hs g => ?_) ((rowMax_le_iff _ _).mpr fun k => ?_)
    · rw [show Y b s g = X (pas ⟨s, hs⟩ g b) from hY b ⟨s, hs⟩ g]
      exact (rowMax_le_iff X _).mp le_rfl _
    · obtain ⟨s, g, b, rfl⟩ := pas_cover k
      rw [← hY]
      exact (le_mSeq (Y b) 16 s.val s.isLt g).trans ((rowMax_le_iff (fun b => mSeq (Y b) 16) _).mp le_rfl b)
  refine ⟨hM, ?_⟩
  rw [sum_pas]
  refine Finset.sum_congr rfl fun b _ => ?_
  rw [lSeq_mul (Y b) 16 _ ((rowMax_le_iff (fun b => mSeq (Y b) 16) _).mp le_rfl b), hM, Finset.sum_range]
  exact Finset.sum_congr rfl fun s _ => Finset.sum_congr rfl fun g _ => by rw [hY]

end Cert.LogitsIdeal.Lse
end
-- ==== Proof.Logits.Grid.lean ====
/- The `logits` call over its grid. Sixteen consecutive points, one for each strip of 512 passages, belong to one batch: each
   writes its block of logits and updates the lane maxima and sums, and the last writes the row's log-sum-exp. -/
module

public import proofs.«01_k».proof.Proof.Logits.Lse

@[expose] public section
set_option maxRecDepth 16384
noncomputable section
namespace Cert.LogitsIdeal.Grid
open Cert.LogitsIdeal Cert.LogitsIdeal.Gen Cert.LogitsIdeal.Value Cert.LogitsIdeal.Block Cert.LogitsIdeal.Lse
open Idealize.ShloMosaic Idealize.ShloMosaic.TcCoe Idealize.SL.Sem Idealize.ShloMosaic.ValueIdx

/-! ## What the first point puts into the scratch -/

theorem pay5_apply (j : S2048x128.Idx) : k0_pay5 (F := Ideal) j = (⊥ : EReal) := by
  unfold k0_pay5
  rw [shapeCast_self]
  exact neg_inf

theorem pay6_apply (j : S2048x128.Idx) : k0_pay6 (F := Ideal) j = (0 : EReal) := by
  unfold k0_pay6
  rw [shapeCast_self]
  exact Ideal.ofBits_zero_f32

theorem pay7_apply (x : Vec Ideal S1x1x2048 .f32) (a : Fin 2048) (b : Fin 128) :
    k0_pay7 (F := Ideal) x (ix2 a b) = (x (ix3 (0 : Fin 1) (0 : Fin 1) a) : EReal) * Ideal.ofBits .f32 0x41A00000#32 := by
  unfold k0_pay7
  rw [shapeCast_self, shapeCast_self]
  refine (transpose_apply _ _ _ (ix2 a b) (ix2 b a) (fun d => by match d with | ⟨0, _⟩ => rfl | ⟨1, _⟩ => rfl)).trans ?_
  refine (broadcastTo_apply _ _ (ix2 b a) (ix2 (0 : Fin 1) a) (fun d => by match d with | ⟨0, _⟩ => rfl | ⟨1, _⟩ => rfl)).trans ?_
  exact congrArg (fun z : EReal => z * Ideal.ofBits .f32 0x41A00000#32)
    (shapeCast_apply x _ (ix2 (0 : Fin 1) a) (ix3 (0 : Fin 1) (0 : Fin 1) a) (by simp [Shape.rowMajor_val_two, Shape.rowMajor_val_three]))

variable (m : (ℓ : Loc nD τ sig) → Buf (Elt Ideal) ℓ)

/-! ## The blocks as parts of the arguments -/

theorem idx0 : ∀ t : Fin cfg0.N, win0_0.index t (0 : Fin 3) = t.val / 16 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, _)
theorem idx3 : ∀ t : Fin cfg0.N, win0_3.index t (0 : Fin 3) = t.val / 16 ∧ win0_3.index t (1 : Fin 3) = 0 ∧ win0_3.index t (2 : Fin 3) = t.val % 16 :=
  (by decide +kernel : ∀ t : Fin grid0.N, _)

/-- The query scales as the call's host code lays them out, -/
theorem qscales_eq (c : Dev nD) (b : Fin 2) (a : Fin 2048) :
    (V m c main_v0 : Vec Ideal S2x1x2048 .f32) (ix3 b (0 : Fin 1) a) = m ((c : Thread nD τ).loc main_arg1) (ix2 b a) := by
  unfold_abbrev_sides
  after_results
  exact shapeCast_apply (m ((c : Thread nD τ).loc main_arg1)) _ _ (ix2 b a) (by
    show (S2x2048.rowMajor (ix2 b a)).val = (S2x1x2048.rowMajor (ix3 b (0 : Fin 1) a)).val
    simp [Shape.rowMajor_val_two, Shape.rowMajor_val_three])

/-- and the passage scales. -/
theorem pscales_eq (c : Dev nD) (b : Fin 2) (k : Fin 8192) :
    (V m c main_v1 : Vec Ideal S2x1x8192 .f32) (ix3 b (0 : Fin 1) k) = m ((c : Thread nD τ).loc main_arg3) (ix2 b k) := by
  unfold_abbrev_sides
  after_results
  exact shapeCast_apply (m ((c : Thread nD τ).loc main_arg3)) _ _ (ix2 b k) (by
    show (S2x8192.rowMajor (ix2 b k)).val = (S2x1x8192.rowMajor (ix3 b (0 : Fin 1) k)).val
    simp [Shape.rowMajor_val_two, Shape.rowMajor_val_three])

theorem blk0 (c : Dev nD) (t : Fin cfg0.N) (a : Fin 2048) (d : Fin 3072) (b : Fin 2) (hb : b.val = t.val / 16) :
    (iblk m c 0 t : Vec Ideal S1x2048x3072 .fp8e4m3) (ix3 (0 : Fin 1) a d) = m ((c : Thread nD τ).loc main_arg0) (ix3 b a d) := by
  obtain ⟨e0, e1, e2⟩ := idx0 t
  unfold iblk
  rw [View.read_apply]
  show V m c main_arg0 _ = _
  rw [V_main_arg0]
  congr 1
  funext x
  apply Fin.ext
  match x with
  | ⟨0, _⟩ => show win0_0.index t (0 : Fin 3) * 1 + 1 * 0 = b.val; omega
  | ⟨1, _⟩ => show win0_0.index t (1 : Fin 3) * 2048 + 1 * a.val = a.val; omega
  | ⟨2, _⟩ => show win0_0.index t (2 : Fin 3) * 3072 + 1 * d.val = d.val; omega

theorem blk1 (c : Dev nD) (t : Fin cfg0.N) (a : Fin 2048) (b : Fin 2) (hb : b.val = t.val / 16) :
    (iblk m c 1 t : Vec Ideal S1x1x2048 .f32) (ix3 (0 : Fin 1) (0 : Fin 1) a) = m ((c : Thread nD τ).loc main_arg1) (ix2 b a) := by
  obtain ⟨e0, e1, e2⟩ := idx1 t
  refine Eq.trans ?_ (qscales_eq m c b a)
  unfold iblk
  rw [View.read_apply]
  show V m c main_v0 _ = V m c main_v0 _
  congr 1
  funext x
  apply Fin.ext
  match x with
  | ⟨0, _⟩ => show win0_1.index t (0 : Fin 3) * 1 + 1 * 0 = b.val; omega
  | ⟨1, _⟩ => show win0_1.index t (1 : Fin 3) * 1 + 1 * 0 = 0; omega
  | ⟨2, _⟩ => show win0_1.index t (2 : Fin 3) * 2048 + 1 * a.val = a.val; omega

theorem blk2 (c : Dev nD) (t : Fin cfg0.N) (k : Fin 512) (d : Fin 3072) (b : Fin 2) (hb : b.val = t.val / 16) (k' : Fin 8192)
    (hk : k'.val = 512 * (t.val % 16) + k.val) :
    (iblk m c 2 t : Vec Ideal S1x512x3072 .fp8e4m3) (ix3 (0 : Fin 1) k d) = m ((c : Thread nD τ).loc main_arg2) (ix3 b k' d) := by
  obtain ⟨e0, e1, e2⟩ := idx2 t
  unfold iblk
  rw [View.read_apply]
  show V m c main_arg2 _ = _
  rw [V_main_arg2]
  congr 1
  funext x
  apply Fin.ext
  match x with
  | ⟨0, _⟩ => show win0_2.index t (0 : Fin 3) * 1 + 1 * 0 = b.val; omega
  | ⟨1, _⟩ => show win0_2.index t (1 : Fin 3) * 512 + 1 * k.val = k'.val; omega
  | ⟨2, _⟩ => show win0_2.index t (2 : Fin 3) * 3072 + 1 * d.val = d.val; omega

theorem blk3 (c : Dev nD) (t : Fin cfg0.N) (k : Fin 512) (b : Fin 2) (hb : b.val = t.val / 16) (k' : Fin 8192)
    (hk : k'.val = 512 * (t.val % 16) + k.val) :
    (iblk m c 3 t : Vec Ideal S1x1x512 .f32) (ix3 (0 : Fin 1) (0 : Fin 1) k) = m ((c : Thread nD τ).loc main_arg3) (ix2 b k') := by
  obtain ⟨e0, e1, e2⟩ := idx3 t
  refine Eq.trans ?_ (pscales_eq m c b k')
  unfold iblk
  rw [View.read_apply]
  show V m c main_v1 _ = V m c main_v1 _
  congr 1
  funext x
  apply Fin.ext
  match x with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 512 + 1 * k.val = k'.val; omega

/-! ## The logits -/

/-- The scaled query scale the kernel keeps: the scale over the temperature. -/
def qs20 (x1 : Vec Ideal S2x2048 .f32) (b : Fin 2) (a : Fin 2048) : EReal := (x1 (ix2 b a) : EReal) * Ideal.ofBits .f32 0x41A00000#32

/-- The logit of query `a` and passage `k` of batch `b`. -/
def lg (x0 : Vec Ideal S2x2048x3072 .fp8e4m3) (x1 : Vec Ideal S2x2048 .f32) (x2 : Vec Ideal S2x8192x3072 .fp8e4m3) (x3 : Vec Ideal S2x8192 .f32)
    (b : Fin 2) (a : Fin 2048) (k : Fin 8192) : EReal :=
  ((∑ d : Fin 3072, (x0 (ix3 b a d) : EReal) * x2 (ix3 b k d)) * qs20 x1 b a) * x3 (ix2 b k)

/-- The same at the call's arguments. -/
abbrev lgAt (c : Dev nD) : Fin 2 → Fin 2048 → Fin 8192 → EReal :=
  lg (m ((c : Thread nD τ).loc main_arg0)) (m ((c : Thread nD τ).loc main_arg1)) (m ((c : Thread nD τ).loc main_arg2)) (m ((c : Thread nD τ).loc main_arg3))

abbrev qsAt (c : Dev nD) : Fin 2 → Fin 2048 → EReal := qs20 (m ((c : Thread nD τ).loc main_arg1))

/-- The logits lane `l` of query `a` takes, strip by strip. -/
def lane (c : Dev nD) (b : Fin 2) (a : Fin 2048) (l : Fin 128) (s : ℕ) (g : Fin 4) : EReal :=
  if h : s < 16 then lgAt m c b a (pas ⟨s, h⟩ g l) else 0

/-- A point's logits are the call's, when the scratch holds the scaled query scales. -/
theorem lgv_eq (c : Dev nD) (b : Fin 2) (r : Fin 16) (t : Fin cfg0.N) (ht : t.val = 16 * b.val + r.val) (q : Vec Ideal S2048x128 .f32)
    (a : Fin 2048) (l : Fin 128) (hq : q (ix2 a l) = qsAt m c b a) (g : Fin 4) :
    lgv (iblk m c 0 t) (iblk m c 2 t) (iblk m c 3 t) q a g l = lgAt m c b a (pas r g l) := by
  have hb : b.val = t.val / 16 := by omega
  have hk : (pas r g l).val = 512 * (t.val % 16) + (col g l).val := by
    show 512 * r.val + 128 * g.val + l.val = 512 * (t.val % 16) + (128 * g.val + l.val)
    omega
  unfold lgv lgAt lg
  refine congrArg₂ (fun y z : EReal => y * z) (congrArg₂ (fun y z : EReal => y * z) ?_ hq) (blk3 m c t _ b hb _ hk)
  exact Finset.sum_congr rfl fun d _ => congrArg₂ (fun y z : EReal => y * z) (blk0 m c t a d b hb) (blk2 m c t _ d b hb _ hk)

theorem lgv_lane (c : Dev nD) (b : Fin 2) (r : Fin 16) (t : Fin cfg0.N) (ht : t.val = 16 * b.val + r.val) (q : Vec Ideal S2048x128 .f32)
    (a : Fin 2048) (l : Fin 128) (hq : q (ix2 a l) = qsAt m c b a) :
    (fun g => lgv (iblk m c 0 t) (iblk m c 2 t) (iblk m c 3 t) q a g l) = lane m c b a l r.val :=
  funext fun g => (lgv_eq m c b r t ht q a l hq g).trans (by unfold lane; rw [dif_pos r.isLt])

/-! ## The scratch, point by point -/

/-- The scratch after `n` strips of batch `b`. -/
structure Inv (c : Dev nD) (b : Fin 2) (n : ℕ) (M L Q : Vec Ideal S2048x128 .f32) : Prop where
  hM : ∀ a l, M (ix2 a l) = mSeq (lane m c b a l) n
  hL : ∀ a l, L (ix2 a l) = lSeq (lane m c b a l) n
  hQ : ∀ a l, Q (ix2 a l) = qsAt m c b a

/-- One more strip. -/
theorem Inv.step (c : Dev nD) (b : Fin 2) (r : Fin 16) (t : Fin cfg0.N) (ht : t.val = 16 * b.val + r.val) (M L Q : Vec Ideal S2048x128 .f32)
    (h : Inv m c b r.val M L Q) :
    Inv m c b (r.val + 1) (mNew (iblk m c 0 t) (iblk m c 2 t) (iblk m c 3 t) Q M) (lNew (iblk m c 0 t) (iblk m c 2 t) (iblk m c 3 t) Q M L) Q where
  hM a l := by
    show mx (M (ix2 a l)) (fun g => lgv (iblk m c 0 t) (iblk m c 2 t) (iblk m c 3 t) Q a g l) = mx _ _
    rw [lgv_lane m c b r t ht Q a l (h.hQ a l), h.hM]
  hL a l := by
    show sm (M (ix2 a l)) (L (ix2 a l)) (fun g => lgv (iblk m c 0 t) (iblk m c 2 t) (iblk m c 3 t) Q a g l) = sm _ _ _
    rw [lgv_lane m c b r t ht Q a l (h.hQ a l), h.hM, h.hL]
  hQ := h.hQ

/-- The first point's own start. -/
theorem Inv.start (c : Dev nD) (b : Fin 2) (t : Fin cfg0.N) (ht : t.val = 16 * b.val) :
    Inv m c b 0 (k0_pay5 (F := Ideal)) (k0_pay6 (F := Ideal)) (k0_pay7 (F := Ideal) (iblk m c 1 t)) where
  hM a l := pay5_apply _
  hL a l := pay6_apply _
  hQ a l := (pay7_apply _ a l).trans (congrArg (fun z : EReal => z * Ideal.ofBits .f32 0x41A00000#32) (blk1 m c t a b (by omega)))

/-- After point `r` of batch `b`. -/
theorem inv (c : Dev nD) (b : Fin 2) : ∀ (r : ℕ) (hr : r < 16) (h : 16 * b.val + r < cfg0.N),
    Inv m c b (r + 1) (outsAt0 m c (16 * b.val + r) h).2.2.1 (outsAt0 m c (16 * b.val + r) h).2.2.2.1 (outsAt0 m c (16 * b.val + r) h).2.2.2.2
  | 0, hr, h => by
    rw [outsAt0_A m c ⟨16 * b.val + 0, h⟩ (by dsimp only; omega) (by dsimp only; omega)]
    dsimp only
    rw [soutm_A, soutl_A, soutq_A]
    exact Inv.step m c b ⟨0, hr⟩ ⟨16 * b.val + 0, h⟩ rfl _ _ _ (Inv.start m c b ⟨16 * b.val + 0, h⟩ rfl)
  | r + 1, hr, h => by
    have ih := inv c b r (by omega) (by omega)
    rw [show outsAt0 m c (16 * b.val + (r + 1)) h = stAt0 m c (16 * b.val + r + 1) h (outsAt0 m c (16 * b.val + r) (by omega)) from rfl]
    by_cases h1 : (16 * b.val + r + 1) % 16 = 15
    · rw [stAt0_C m c ⟨16 * b.val + r + 1, h⟩ _ (by dsimp only; omega) h1]
      dsimp only
      rw [soutm_C, soutl_C, soutq_C]
      exact Inv.step m c b ⟨r + 1, hr⟩ ⟨16 * b.val + r + 1, h⟩ rfl _ _ _ ih
    · rw [stAt0_B m c ⟨16 * b.val + r + 1, h⟩ _ (by dsimp only; omega) h1]
      dsimp only
      rw [soutm_B, soutl_B, soutq_B]
      exact Inv.step m c b ⟨r + 1, hr⟩ ⟨16 * b.val + r + 1, h⟩ rfl _ _ _ ih

/-- The block of logits point `r` of batch `b` writes. -/
theorem block_eq (c : Dev nD) (b : Fin 2) (r : Fin 16) (h : 16 * b.val + r.val < cfg0.N) (a : Fin 2048) (k : Fin 512) (k' : Fin 8192)
    (hk : k'.val = 512 * r.val + k.val) :
    ((outsAt0 m c (16 * b.val + r.val) h).1 (ix3 (0 : Fin 1) a k) : EReal) = lgAt m c b a k' := by
  have hk' : k' = pas r ⟨k.val / 128, by omega⟩ ⟨k.val % 128, by omega⟩ := Fin.ext (by
    show k'.val = 512 * r.val + 128 * (k.val / 128) + k.val % 128
    omega)
  rw [hk']
  clear hk hk'
  obtain ⟨r, hr⟩ := r
  match r, hr, h with
  | 0, hr, h =>
    dsimp only
    rw [outsAt0_A m c ⟨16 * b.val + 0, h⟩ (by dsimp only; omega) (by dsimp only; omega)]
    dsimp only
    rw [outg_A]
    exact lgv_eq m c b ⟨0, hr⟩ ⟨16 * b.val + 0, h⟩ rfl _ a _ ((Inv.start m c b ⟨16 * b.val + 0, h⟩ rfl).hQ _ _) _
  | r + 1, hr, h =>
    have h' : 16 * b.val + (r + 1) < cfg0.N := h
    have ih := inv m c b r (by omega) (by omega)
    dsimp only
    rw [show outsAt0 m c (16 * b.val + (r + 1)) h = stAt0 m c (16 * b.val + r + 1) h (outsAt0 m c (16 * b.val + r) (by omega)) from rfl]
    by_cases h1 : (16 * b.val + r + 1) % 16 = 15
    · rw [stAt0_C m c ⟨16 * b.val + r + 1, h⟩ _ (by dsimp only; omega) h1]
      dsimp only
      rw [outg_C]
      exact lgv_eq m c b ⟨r + 1, hr⟩ ⟨16 * b.val + r + 1, h⟩ rfl _ a _ (ih.hQ _ _) _
    · rw [stAt0_B m c ⟨16 * b.val + r + 1, h⟩ _ (by dsimp only; omega) h1]
      dsimp only
      rw [outg_B]
      exact lgv_eq m c b ⟨r + 1, hr⟩ ⟨16 * b.val + r + 1, h⟩ rfl _ a _ (ih.hQ _ _) _

/-- A row's log-sum-exp, taken from its greatest element. -/
def lse {n : ℕ} (X : Fin n → EReal) : EReal := rowMax X + Ideal.log (∑ k, Ideal.exp (X k - rowMax X))

/-- What the last point of batch `b` writes for query `a`. -/
theorem lse_eq (c : Dev nD) (b : Fin 2) (h : 16 * b.val + 15 < cfg0.N) (a : Fin 2048) (y : S1x1x2048.Idx) (hy : y 2 = a) :
    ((outsAt0 m c (16 * b.val + 15) h).2.1 y : EReal) = lse (lgAt m c b a) := by
  have I := inv m c b 15 (by omega) h
  have e : ((outsAt0 m c (16 * b.val + 15) h).2.1 y : EReal)
      = lseF (outsAt0 m c (16 * b.val + 15) h).2.2.1 (outsAt0 m c (16 * b.val + 15) h).2.2.2.1 a := by
    rw [show outsAt0 m c (16 * b.val + 15) h = stAt0 m c (16 * b.val + 14 + 1) h (outsAt0 m c (16 * b.val + 14) (by omega)) from rfl]
    rw [stAt0_C m c ⟨16 * b.val + 14 + 1, h⟩ _ (by dsimp only; omega) (by dsimp only; omega)]
    dsimp only
    rw [outlse_C, soutm_C, soutl_C, hy]
  rw [e]
  obtain ⟨hM, hS⟩ := row_eq (lgAt m c b a) (lane m c b a) (fun l s g => by unfold lane; rw [dif_pos s.isLt])
  have e1 : laneMax (outsAt0 m c (16 * b.val + 15) h).2.2.1 a = rowMax (lgAt m c b a) := by
    rw [← hM]
    exact congrArg (fun X => rowMax X) (funext fun l => I.hM a l)
  unfold lseF lse
  rw [e1, ← hS, hM]
  exact congrArg (fun z => rowMax (lgAt m c b a) + Ideal.log z) (Finset.sum_congr rfl fun l _ => by rw [I.hM, I.hL])

/-! ## The results -/

theorem G4_eq (c : Dev nD) (b : Fin 2) (a : Fin 2048) (k : Fin 8192) : (G4 m c (ix3 b a k) : EReal) = lgAt m c b a k := by
  have hN : cfg0.N = 32 := N_0
  have hp : pt4Of (ix3 b a k) = 16 * b.val + k.val / 512 := by
    show 16 * (b.val / 1 - 0) + 16 * (a.val / 2048 - 0) + 1 * (k.val / 512 - 0) = _
    omega
  have h : 16 * b.val + k.val / 512 < cfg0.N := by omega
  unfold G4
  rw [dif_pos (by rw [hp]; exact h), fold0_congr m c _ _ (16 * b.val + k.val / 512) (by omega) hp, ← outsAt0_sweep m c _ h]
  refine Eq.trans (congrArg _ ?_) (block_eq m c b ⟨k.val / 512, by omega⟩ h a ⟨k.val % 512, by omega⟩ k (by dsimp only; omega))
  funext x
  apply Fin.ext
  match x with
  | ⟨0, _⟩ => show b.val % 1 = 0; omega
  | ⟨1, _⟩ => show a.val % 2048 = a.val; omega
  | ⟨2, _⟩ => rfl

theorem G5_eq (c : Dev nD) (b : Fin 2) (a : Fin 2048) : (G5 m c (ix3 b (0 : Fin 1) a) : EReal) = lse (lgAt m c b a) := by
  have hN : cfg0.N = 32 := N_0
  have hp : pt5Of (ix3 b (0 : Fin 1) a) = 16 * b.val + 15 := by
    show 16 * (1 * (b.val / 1 - 0) + 1 * (0 / 1 - 0) + 1 * (a.val / 2048 - 0)) + 15 = _
    omega
  have h : 16 * b.val + 15 < cfg0.N := by omega
  unfold G5
  rw [dif_pos (by rw [hp]; exact h), fold0_congr m c _ _ (16 * b.val + 15) (by omega) hp, ← outsAt0_sweep m c _ h]
  exact lse_eq m c b h a _ (Fin.ext (by show a.val % 2048 = a.val; omega))

end Cert.LogitsIdeal.Grid
end
-- ==== Proof.Logits.Ref.lean ====
/- The plain program of the `logits` call: the products of the codes, times the two scales, times 20; and each row's
   log-sum-exp, taken from its greatest element. -/
module

public import proofs.«01_k».proof.Proof.Gen.LogitsRefIdeal.Read
public import proofs.«01_k».proof.Proof.Logits.Lse
public import Idealize.ShloMosaic.Lib.ValueIdx
public import Idealize.ShloMosaic.Lib.KernelVsHost
public import Idealize.ShloMosaic.PureOps.Ideal.Laws

@[expose] public section
set_option maxRecDepth 16384
noncomputable section
namespace Cert.LogitsRefIdeal.Ref
open Cert.LogitsRefIdeal Cert.LogitsRefIdeal.Gen Cert.LogitsRefIdeal.Value Cert.LogitsRefIdeal.Read Cert.LogitsIdeal.Lse
open Idealize.ShloMosaic Idealize.ShloMosaic.TcCoe Idealize.SL.Sem Idealize.ShloMosaic.ValueIdx

variable (m : (ℓ : Loc nD τ sig) → Buf (Elt Ideal) ℓ)

theorem hz3 : (![0, 0, 0] : Fin 3 → Nat) = fun _ => 0 := funext fun a => by fin_cases a <;> rfl

/-- The arguments at core `c`. -/
abbrev arg0 (c : Dev nD) : Vec Ideal S2x2048x3072 .fp8e4m3 := m ((c : Thread nD τ).loc main_arg0)
abbrev arg1 (c : Dev nD) : Vec Ideal S2x2048 .f32 := m ((c : Thread nD τ).loc main_arg1)
abbrev arg2 (c : Dev nD) : Vec Ideal S2x8192x3072 .fp8e4m3 := m ((c : Thread nD τ).loc main_arg2)
abbrev arg3 (c : Dev nD) : Vec Ideal S2x8192 .f32 := m ((c : Thread nD τ).loc main_arg3)

/-- Each window's one block is its whole array. -/
theorem iblk0 (c : Dev nD) : (iblk m c 0 t0_0 : Vec Ideal S2x2048x3072 .fp8e4m3) = V m c main_arg0 :=
  Memref.read_access_unit_zero (Elt Ideal) main_arg0 (off := fun a => win0_0.index t0_0 a * main_arg0.ty.shape.size a)
    (funext fun a => by fin_cases a <;> decide) (fun a => by fin_cases a <;> decide) (V m c main_arg0)
theorem iblk1 (c : Dev nD) : (iblk m c 1 t0_0 : Vec Ideal S2x8192x3072 .fp8e4m3) = V m c main_arg2 :=
  Memref.read_access_unit_zero (Elt Ideal) main_arg2 (off := fun a => win0_1.index t0_0 a * main_arg2.ty.shape.size a)
    (funext fun a => by fin_cases a <;> decide) (fun a => by fin_cases a <;> decide) (V m c main_arg2)

/-- The products of the codes. -/
def prods (c : Dev nD) : Vec Ideal S2x2048x8192 .f32 := out0_2 (V m c main_arg0) (V m c main_arg2)

/-- A batched product read at an index. -/
theorem scores_apply (x : Vec Ideal S2x2048x3072 .fp8e4m3) (y : Vec Ideal S2x8192x3072 .fp8e4m3) (b : Fin 2) (a : Fin 2048) (k : Fin 8192) :
    (k0_pay1 (F := Ideal) x y (ix3 b a k) : EReal) = ∑ d : Fin 3072, (x (ix3 b a d) : EReal) * y (ix3 b k d) := by
  unfold k0_pay1
  refine (Ideal.matmul_constant_zero_apply (φ₁ := .fp8e4m3) (φ₂ := .fp8e4m3) dot_S2x2048x3072_S2x8192x3072_S2x2048x8192_2_2_1_1_0_0 none x y (ix3 b a k)).trans ?_
  rw [← Equiv.sum_comp (contrEquiv1 dot_S2x2048x3072_S2x8192x3072_S2x2048x8192_2_2_1_1_0_0 3072 rfl rfl).symm]
  refine Finset.sum_congr rfl fun d _ => ?_
  have hk := contrEquiv1_symm_val dot_S2x2048x3072_S2x8192x3072_S2x2048x8192_2_2_1_1_0_0 3072 rfl rfl d
  refine congrArg₂ (fun u v : EReal => u * v) (congrArg x ?_) (congrArg y ?_)
  · funext z; apply Fin.ext
    match z with
    | ⟨0, _⟩ => rfl
    | ⟨1, _⟩ => rfl
    | ⟨2, _⟩ => exact hk
  · funext z; apply Fin.ext
    match z with
    | ⟨0, _⟩ => rfl
    | ⟨1, _⟩ => rfl
    | ⟨2, _⟩ => exact hk

theorem prods_apply (c : Dev nD) (b : Fin 2) (a : Fin 2048) (k : Fin 8192) :
    (prods m c (ix3 b a k) : EReal) = ∑ d : Fin 3072, (arg0 m c (ix3 b a d) : EReal) * arg2 m c (ix3 b k d) := by
  unfold prods out0_2
  rw [View.canon_unit_zero hz3, View.ld_unit_zero hz3, View.ld_unit_zero hz3, V_main_arg0, V_main_arg2]
  exact scores_apply _ _ b a k

/-- What the region's result array ends holding. -/
theorem reg0 (c : Dev nD) : reg_main_v0 m c = prods m c :=
  (dats m 0 c).arrAt_eq_of_cover 2 (prods m c) (fun t hf => by
    obtain rfl : t = t0_0 := fin_N0 t
    show (cfg0.win 2).cut (grid0.coords t0_0) ((dats m 0 c).after 2 t0_0) = _
    rw [after0_2, iblk0, iblk1]
    exact (Memref.read_access_unit_zero (Elt Ideal) main_v0 (off := fun a => win0_2.index t0_0 a * main_v0.ty.shape.size a)
      (funext fun a => by fin_cases a <;> decide) (fun a => by fin_cases a <;> decide) (prods m c)).symm) fun i =>
    ⟨t0_0, flush0_2 t0_0, by
      show i ∈ ((View.whole main_v0).slice (win0_2.rect t0_0)).set
      rw [View.set_slice_whole, Rect.mem_set_unit]
      intro a
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 2 from by decide +kernel]
                  exact ⟨Nat.zero_le _, (Nat.zero_add 2).symm ▸ (i 0).isLt⟩
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 2048 from by decide +kernel]
                  exact ⟨Nat.zero_le _, (Nat.zero_add 2048).symm ▸ (i 1).isLt⟩
      | ⟨2, _⟩ => show win0_2.index t0_0 2 * win0_2.size 2 ≤ (i 2 : Nat) ∧ (i 2 : Nat) < win0_2.index t0_0 2 * win0_2.size 2 + win0_2.xsize (grid0.coords t0_0) 2
                  rw [show win0_2.index t0_0 2 * win0_2.size 2 = 0 from by decide +kernel, show win0_2.xsize (grid0.coords t0_0) 2 = 8192 from by decide +kernel]
                  exact ⟨Nat.zero_le _, (Nat.zero_add 8192).symm ▸ (i 2).isLt⟩⟩

/-- The plain program's logit. -/
def lg (c : Dev nD) (b : Fin 2) (a : Fin 2048) (k : Fin 8192) : EReal :=
  ((∑ d : Fin 3072, (arg0 m c (ix3 b a d) : EReal) * arg2 m c (ix3 b k d)) * ((arg1 m c (ix2 b a) : EReal) * arg3 m c (ix2 b k)))
    * Ideal.ofBits .f32 0x41A00000#32

/-- Its first result. -/
theorem logits_apply (c : Dev nD) (b : Fin 2) (a : Fin 2048) (k : Fin 8192) :
    (val_main_v8 (F := Ideal) (arg1 m c) (arg3 m c) (reg_main_v0 m c) (ix3 b a k) : EReal) = lg m c b a k := by
  rw [val_main_v8_apply, val_main_v7_apply, val_main_cst_apply, val_main_v6_apply, val_main_v5_apply, val_main_v3_apply, val_main_v4_apply,
    val_main_v1_apply, val_main_v2_apply, reg0]
  have e1 : idx_main_v1 (idx_main_v3 (ix3 b a k)) = ix2 b a := funext fun x => by match x with | ⟨0, _⟩ => rfl | ⟨1, _⟩ => rfl
  have e3 : idx_main_v2 (idx_main_v4 (ix3 b a k)) = ix2 b k := funext fun x => by match x with | ⟨0, _⟩ => rfl | ⟨1, _⟩ => rfl
  rw [e1, e3]
  exact congrArg (fun z : EReal => (z * ((arg1 m c (ix2 b a) : EReal) * arg3 m c (ix2 b k))) * Ideal.ofBits .f32 0x41A00000#32) (prods_apply m c b a k)

/-- The greatest element of a row, by the host's reduction. -/
theorem max_apply (X : FVec Ideal S2x2048x8192 .f32) (b : Fin 2) (a : Fin 2048) :
    (Host.reduce FloatOps.maximumf X (constant (F := Ideal) S_ .f32 0xFF800000#32) reducesTo_S2x2048x8192_S2x2048_d2 h_S_ : FVec Ideal S2x2048 .f32) (ix2 b a)
      = rowMax fun k : Fin 8192 => X (ix3 b a k) := by
  have hr : S2x2048x8192.Reduces [2] S2x2048 := by decide
  have hφ : FKind.Formats .f32 := by decide
  have hacc : (0xFF800000#32 : BitVec 32) = FKind.maximumf.neutral .f32 hφ := by decide +revert
  refine (congrFun (hostReduce_maximumf_eq_multiReduction X (0xFF800000#32 : BitVec 32) reducesTo_S2x2048x8192_S2x2048_d2 h_S_ hr hφ hacc) (ix2 b a)).trans ?_
  refine (Ideal.multiReduction_maximumf_single X _ hr _ hacc (ix2 b a)).trans ?_
  refine congrArg (fun f : Fin 8192 → EReal => rowMax f) (funext fun k => congrArg X (funext fun x => Fin.ext ?_))
  match x with
  | ⟨0, _⟩ => rfl
  | ⟨1, _⟩ => rfl
  | ⟨2, _⟩ => rfl

theorem rowMax_apply (c : Dev nD) (b : Fin 2) (a : Fin 2048) :
    (val_main_v9 (F := Ideal) (arg1 m c) (arg3 m c) (reg_main_v0 m c) (ix2 b a) : EReal) = rowMax (lg m c b a) := by
  unfold val_main_v9
  exact (max_apply _ b a).trans (congrArg (fun f : Fin 8192 → EReal => rowMax f) (funext fun k => logits_apply m c b a k))

/-- Its second result. -/
theorem lse_apply (c : Dev nD) (b : Fin 2) (a : Fin 2048) :
    (val_main_v18 (F := Ideal) (arg1 m c) (arg3 m c) (reg_main_v0 m c) (ix3 b (0 : Fin 1) a) : EReal)
      = rowMax (lg m c b a) + Ideal.log (∑ k, Ideal.exp (lg m c b a k - rowMax (lg m c b a))) := by
  rw [val_main_v18_apply]
  have e0 : idx_main_v18 (ix3 b (0 : Fin 1) a) = ix2 b a := funext fun x => by match x with | ⟨0, _⟩ => rfl | ⟨1, _⟩ => rfl
  rw [e0, val_main_v17_apply, val_main_v16_apply, val_main_v15_apply, val_main_v11_apply, val_main_v10_apply]
  have e1 : idx_main_v10 (idx_main_v11 (ix2 b a)) = ix2 b a := funext fun x => by
    match x with
    | ⟨0, _⟩ => exact Fin.ext (by show (b.val * 2048 + a.val) / 2048 = b.val; omega)
    | ⟨1, _⟩ => exact Fin.ext (by show (b.val * 2048 + a.val) / 1 % 2048 = a.val; omega)
  rw [e1, rowMax_apply]
  refine congrArg (fun z : EReal => rowMax (lg m c b a) + Ideal.log z) ?_
  show Ideal.ofBits .f32 0x00000000#32 + _ = _
  rw [Ideal.ofBits_zero_f32, zero_add]
  refine Finset.sum_congr rfl fun k _ => ?_
  have e2 : idx_main_v15 (ix2 b a) k = ix3 b a k := funext fun x => by match x with | ⟨0, _⟩ => rfl | ⟨1, _⟩ => rfl | ⟨2, _⟩ => rfl
  have e3 : idx_main_v10 (idx_main_v12 (ix3 b a k)) = ix2 b a := funext fun x => by match x with | ⟨0, _⟩ => rfl | ⟨1, _⟩ => rfl
  rw [e2, val_main_v14_apply, val_main_v13_apply, val_main_v12_apply, val_main_v10_apply, e3, rowMax_apply, logits_apply]
  rfl

end Cert.LogitsRefIdeal.Ref
end
-- ==== Proof.Logits.Equal.lean ====
/- The `logits` call and its plain program end with equal results: the logits are the same products in another order, and
   the row's log-sum-exp is taken from the same greatest element. -/
module

public import proofs.«01_k».proof.Defs
public import proofs.«01_k».proof.Proof.Gen.LogitsIdeal
public import proofs.«01_k».proof.Proof.Gen.LogitsRefIdeal
public import proofs.«01_k».proof.Proof.Logits.Grid
public import proofs.«01_k».proof.Proof.Logits.Ref

@[expose] public section
noncomputable section
namespace Cert.LogitsEqual
open Idealize.ShloMosaic Idealize.ShloMosaic.TcCoe Idealize.SL.Sem Idealize.ShloMosaic.ValueIdx

section
variable (m : (ℓ : Loc Cert.LogitsIdeal.nD Cert.LogitsIdeal.τ Cert.LogitsIdeal.sig) → Buf (Elt Ideal) ℓ)
  (m' : (ℓ : Loc Cert.LogitsRefIdeal.nD Cert.LogitsRefIdeal.τ Cert.LogitsRefIdeal.sig) → Buf (Elt Ideal) ℓ) (c : Dev Cert.LogitsIdeal.nD)
  (h0 : m' ((c.tc : Thread Cert.LogitsRefIdeal.nD Cert.LogitsRefIdeal.τ).loc Cert.LogitsRefIdeal.main_arg0) = m ((c.tc : Thread Cert.LogitsIdeal.nD Cert.LogitsIdeal.τ).loc Cert.LogitsIdeal.main_arg0))
  (h1 : m' ((c.tc : Thread Cert.LogitsRefIdeal.nD Cert.LogitsRefIdeal.τ).loc Cert.LogitsRefIdeal.main_arg1) = m ((c.tc : Thread Cert.LogitsIdeal.nD Cert.LogitsIdeal.τ).loc Cert.LogitsIdeal.main_arg1))
  (h2 : m' ((c.tc : Thread Cert.LogitsRefIdeal.nD Cert.LogitsRefIdeal.τ).loc Cert.LogitsRefIdeal.main_arg2) = m ((c.tc : Thread Cert.LogitsIdeal.nD Cert.LogitsIdeal.τ).loc Cert.LogitsIdeal.main_arg2))
  (h3 : m' ((c.tc : Thread Cert.LogitsRefIdeal.nD Cert.LogitsRefIdeal.τ).loc Cert.LogitsRefIdeal.main_arg3) = m ((c.tc : Thread Cert.LogitsIdeal.nD Cert.LogitsIdeal.τ).loc Cert.LogitsIdeal.main_arg3))
include h0 h1 h2 h3

/-- From memories that agree on the arguments the logits are equal. -/
theorem lg_eq (b : Fin 2) (a : Fin 2048) (k : Fin 8192) : Cert.LogitsRefIdeal.Ref.lg m' c b a k = Cert.LogitsIdeal.Grid.lgAt m c b a k := by
  unfold Cert.LogitsRefIdeal.Ref.lg
  rw [Cert.LogitsRefIdeal.Ref.arg0, Cert.LogitsRefIdeal.Ref.arg1, Cert.LogitsRefIdeal.Ref.arg2, Cert.LogitsRefIdeal.Ref.arg3, h0, h1, h2, h3]
  unfold Cert.LogitsIdeal.Grid.lgAt Cert.LogitsIdeal.Grid.lg Cert.LogitsIdeal.Grid.qs20
  rw [mul_assoc, mul_assoc, mul_assoc, mul_right_comm, mul_assoc]

/-- The first results are equal, -/
theorem logits_eq : Cert.LogitsRefIdeal.Read.val_main_v8 (F := Ideal) (Cert.LogitsRefIdeal.Ref.arg1 m' c) (Cert.LogitsRefIdeal.Ref.arg3 m' c) (Cert.LogitsRefIdeal.Value.reg_main_v0 m' c)
    = Cert.LogitsIdeal.Value.G4 m c := by
  funext i
  obtain ⟨b, a, k, rfl⟩ : ∃ b a k, i = ix3 b a k := ⟨_, _, _, eq_ix3 i⟩
  exact (Cert.LogitsRefIdeal.Ref.logits_apply m' c b a k).trans ((lg_eq m m' c h0 h1 h2 h3 b a k).trans (Cert.LogitsIdeal.Grid.G4_eq m c b a k).symm)

/-- and the second. -/
theorem lse_eq : Cert.LogitsRefIdeal.Read.val_main_v18 (F := Ideal) (Cert.LogitsRefIdeal.Ref.arg1 m' c) (Cert.LogitsRefIdeal.Ref.arg3 m' c) (Cert.LogitsRefIdeal.Value.reg_main_v0 m' c)
    = Cert.LogitsIdeal.Value.G5 m c := by
  funext i
  obtain ⟨b, z, a, rfl⟩ : ∃ b z a, i = ix3 b z a := ⟨_, _, _, eq_ix3 i⟩
  obtain rfl : z = (0 : Fin 1) := Subsingleton.elim _ _
  refine (Cert.LogitsRefIdeal.Ref.lse_apply m' c b a).trans (Eq.trans ?_ (Cert.LogitsIdeal.Grid.G5_eq m c b a).symm)
  rw [show Cert.LogitsRefIdeal.Ref.lg m' c b a = Cert.LogitsIdeal.Grid.lgAt m c b a from funext fun k => lg_eq m m' c h0 h1 h2 h3 b a k]
  rfl

end

/-- The value claim. -/
theorem algebraic : Cert.algebraic_LogitsIdeal_LogitsRefIdeal (hLogitsIdeal := Cert.LogitsIdeal.Gen.facts) (hLogitsRefIdeal := Cert.LogitsRefIdeal.Gen.facts) :=
  fun m ρ m' ρ' _ hag => ⟨fun c => Cert.LogitsIdeal.Value.G4 m c, fun c => Cert.LogitsIdeal.Value.G5 m c, Cert.LogitsIdeal.Value.run m ρ,
    (θ_run _ _ _).mono (fun _ h c => ⟨(h c).1.trans (logits_eq m m' c (hag c).1 (hag c).2.1 (hag c).2.2.1 (hag c).2.2.2),
        (h c).2.1.trans (lse_eq m m' c (hag c).1 (hag c).2.1 (hag c).2.2.1 (hag c).2.2.2), (h c).2.2⟩)
      (Cert.LogitsRefIdeal.Value.run m' ρ')⟩

end Cert.LogitsEqual
end
-- ==== Proof.Dp.Runs.lean ====
/- What the runs of the `dp` kernel's body share: the contents of the arrays when the call starts, each window's block at a
   point, the conditions of the body's conditionals over the grid, and the memrefs the body is called with. -/
module

public import proofs.«01_k».proof.Proof.Gen.Dp.Launch
public import proofs.«01_k».proof.Proof.Gen.Dp.Skeleton
public import proofs.«01_k».proof.Proof.Gen.Dp.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Dp`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.remsi (Scalar.minsi (BitVec.ofNat 32 (i 0).val) 31#32) 16#32) 0#32)) 0#32) = 1#1
/-- It holds at points 0 and 16 only — decided over the grid. -/
theorem hcond0_0 : ∀ t : Fin cfg0.N, cond0_0 (grid0.coords t) ↔ (t.val % 33 = 0 ∨ t.val % 33 = 16) :=
  (by decide +kernel : ∀ t : Fin grid0.N, cond0_0 (grid0.coords t) ↔ (t.val % 33 = 0 ∨ t.val % 33 = 16))

/-- The condition of the body's `scf.if` 1 (`k0_h2`), from the grid coordinates (the skeleton's scalar
    chain substituted). -/
abbrev cond0_1 (i : grid0.Coords) : Prop := (Scalar.cmpi .ne (Scalar.extui (Scalar.andi (Scalar.cmpi .eq (Scalar.remsi (Scalar.maxsi (Scalar.subi (BitVec.ofNat 32 (i 0).val) 1#32) 0#32) 16#32) 0#32) (Scalar.cmpi .sgt (BitVec.ofNat 32 (i 0).val) 0#32))) 0#32) = 1#1
/-- It holds at the points ≡ 1 (mod 16) — decided over the grid. -/
theorem hcond0_1 : ∀ t : Fin cfg0.N, cond0_1 (grid0.coords t) ↔ t.val % 16 = 1 :=
  (by decide +kernel : ∀ t : Fin grid0.N, cond0_1 (grid0.coords t) ↔ t.val % 16 = 1)

/-- The condition of the body's `scf.if` 2 (`k0_h3`), from the grid coordinates (the skeleton's scalar
    chain substituted). -/
abbrev cond0_2 (i : grid0.Coords) : Prop := k0_cond3 i = 1#1
/-- It holds at the first point only — by arithmetic of the point. -/
theorem hcond0_2 : ∀ t : Fin cfg0.N, cond0_2 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 0)

/-- The condition of the body's `scf.if` 3 (`k0_h4`), from the grid coordinates (the skeleton's scalar
    chain substituted). -/
abbrev cond0_3 (i : grid0.Coords) : Prop := k0_cond4 i = 1#1
/-- It holds at the points from point 1 on — decided over the grid. -/
theorem hcond0_3 : ∀ t : Fin cfg0.N, cond0_3 (grid0.coords t) ↔ 1 ≤ t.val :=
  (by decide +kernel : ∀ t : Fin grid0.N, cond0_3 (grid0.coords t) ↔ 1 ≤ t.val)

/-- The condition of the body's `scf.if` 4 (`k0_h5`), from the grid coordinates (the skeleton's scalar
    chain substituted). -/
abbrev cond0_4 (i : grid0.Coords) : Prop := k0_cond5 i = 1#1
/-- It holds at points 15, 31 and 32 only — decided over the grid. -/
theorem hcond0_4 : ∀ t : Fin cfg0.N, cond0_4 (grid0.coords t) ↔ (t.val % 33 = 15 ∨ t.val % 33 = 31 ∨ t.val % 33 = 32) :=
  (by decide +kernel : ∀ t : Fin grid0.N, cond0_4 (grid0.coords t) ↔ (t.val % 33 = 15 ∨ t.val % 33 = 31 ∨ t.val % 33 = 32))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x3072 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x3072 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x512 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2048x512 .f32 := Memref.whole cc0_scratch0
abbrev scM0_1 : Memref sig .tc .vmem S2x512x2048 .bf16 := Memref.whole cc0_scratch1
abbrev scM0_2 : Memref sig .tc .vmem S2048x3072 .bf16 := Memref.whole cc0_scratch2
abbrev scM0_3 : Memref sig .tc .vmem S2048x128 .f32 := Memref.whole cc0_scratch3
abbrev scM0_4 : Memref sig .tc .vmem S2048x128 .i32 := Memref.whole cc0_scratch4
abbrev scM0_5 : Memref sig .tc .vmem S2048x128 .f32 := Memref.whole cc0_scratch5
abbrev scM0_6 : Memref sig .tc .vmem S8x512 .f32 := Memref.whole cc0_scratch6
abbrev scM0_7 : Memref sig .tc .vmem S8x512 .f32 := Memref.whole cc0_scratch7
abbrev scM0_8 : Memref sig .tc .vmem S2x512x128 .f32 := Memref.whole cc0_scratch8
/-- The scratch `arg13` the kernel carries between points, as a view: what it holds is stated through it. -/
abbrev VS0_3 : View sig .tc .vmem S2048x128 .f32 := scM0_3.view
/-- The scratch `arg14` the kernel carries between points, as a view: what it holds is stated through it. -/
abbrev VS0_4 : View sig .tc .vmem S2048x128 .i32 := scM0_4.view
/-- The scratch `arg15` the kernel carries between points, as a view: what it holds is stated through it. -/
abbrev VS0_5 : View sig .tc .vmem S2048x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.Dp.Gen

end
-- ==== Proof.Dp.RunA.lean ====
/- The whole body of the `dp` kernel, run at point 0, which multiplies nothing: it starts the first batch (case A of
   the conditionals). -/
module

public import proofs.«01_k».proof.Proof.Dp.Runs

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7072000 in
/-- What the body's stores leave in each output's staging memref, as pieces (last first) IN CASE A (`scf.if` 0 taken, `scf.if` 1 not taken, `scf.if` 2 taken, `scf.if` 3 not taken, `scf.if` 4 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8) at anything, handed back at some contents nothing names. -/
noncomputable def kernelRun0_A (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : cond0_2 i) (hc3 : ¬cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) :
    Σ' (LS3 : List (View.Piece (Elt F) S2048x128 .f32)), Σ' (LS4 : List (View.Piece (Elt F) S2048x128 .i32)), { LS5 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_dp_eq_skeleton]; unfold cc0_dp_skel
    simp only [k0_part187_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part188_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Dp.Gen

end
-- ==== Proof.Dp.Offsets.lean ====
/- The two offsets by which the `dp` kernel reads the half of its double buffers that the point before wrote:
   at point `t` the half `(t - 1) mod 2`, where the subtraction stops at zero. The kernel computes them in 32-bit
   words; here they are stated over the natural numbers, point by point of the grid. -/
module

public import proofs.«01_k».proof.Proof.Dp.RunA

@[expose] public section

noncomputable section

namespace Cert.Dp.Gen

open Idealize.ShloMosaic Idealize.ShloMosaic.TcCoe Idealize.ShloMosaic.Tactic

/-- The half of the transposed-codes buffer that is multiplied at point `i`. -/
theorem k0_off18_eq : ∀ i : grid0.Coords, k0_off18 i = ![((i 0).val - 1) % 2, 0, 0] := by decide +kernel
instance closedOff_k0_off18 (i : grid0.Coords) : ClosedOff (k0_off18 i) := ⟨![((i 0).val - 1) % 2, 0, 0], k0_off18_eq i⟩

/-- The half of the column-scale buffer that is read at point `i`. -/
theorem k0_off19_eq : ∀ i : grid0.Coords, k0_off19 i = ![((i 0).val - 1) % 2, 0, 0] := by decide +kernel
instance closedOff_k0_off19 (i : grid0.Coords) : ClosedOff (k0_off19 i) := ⟨![((i 0).val - 1) % 2, 0, 0], k0_off19_eq i⟩

end Cert.Dp.Gen

end
-- ==== Proof.Dp.RunB.lean ====
/- The whole body of the `dp` kernel, run at the points 1 and 17, the first point of each batch
   at which a strip is multiplied (case B of its conditionals): on whole buffers it loads and stores within bounds and hands every buffer back. The
   lists of pieces are what it leaves in the scratch that the next point reads. The run is the generated one with
   the closed forms of the two double-buffer offsets (Offsets.lean) at hand. -/
module

public import proofs.«01_k».proof.Proof.Dp.Offsets

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 14564000 in
/-- What the body's stores leave in each output's staging memref, as pieces (last first) IN CASE B (`scf.if` 0 not taken, `scf.if` 1 taken, `scf.if` 2 not taken, `scf.if` 3 taken, `scf.if` 4 not taken: points 1, 17), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8) at anything, handed back at some contents nothing names. -/
noncomputable def kernelRun0_B (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) :
    Σ' (LS3 : List (View.Piece (Elt F) S2048x128 .f32)), Σ' (LS4 : List (View.Piece (Elt F) S2048x128 .i32)), { LS5 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3 ∗ owns (c : Thread nD τ) arg14 fullShare xs4 ∗ owns (c : Thread nD τ) arg15 fullShare xs5 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3 ∗ owns (c : Thread nD τ) arg14 fullShare xs4 ∗ (∃ f, arg15.view.loc (c : Thread nD τ) ↦[arg15.view.set]{fullShare} arg15.view.writes (Elt F) f LS5) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, fun E K => ?run⟩
  case run =>
    simp only [cc0_dp_eq_skeleton]; unfold cc0_dp_skel
    simp only [k0_part86_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part87_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part295_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part296_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg13.eq_unread hfs3; obtain rfl := harg14.eq_unread hfs4; obtain rfl := harg15.eq_unread hfs5
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg13.read_unread _
      iexact HS3
    isplitl [HS4]
    · iexists _; isplitr; · ipureintro; exact harg14.read_unread _
      iexact HS4
    isplitl [HS5]; · iexists _; iexact HS5
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Dp.Gen

end
-- ==== Proof.Dp.RunC.lean ====
/- The whole body of the `dp` kernel, run at the points 2 to 14 and 18 to 30, which multiply one strip while they form
   the next (case C of its conditionals): on whole buffers it loads and stores within bounds and hands every buffer back. The
   lists of pieces are what it leaves in the scratch that the next point reads. The run is the generated one with
   the closed forms of the two double-buffer offsets (Offsets.lean) at hand. -/
module

public import proofs.«01_k».proof.Proof.Dp.RunB

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7660000 in
/-- What the body's stores leave in each output's staging memref, as pieces (last first) IN CASE C (`scf.if` 0 not taken, `scf.if` 1 not taken, `scf.if` 2 not taken, `scf.if` 3 taken, `scf.if` 4 not taken: points 2, 3, … 30: 26 of 33), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8) at anything, handed back at some contents nothing names. -/
noncomputable def kernelRun0_C (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) :
    Σ' (LS3 : List (View.Piece (Elt F) S2048x128 .f32)), Σ' (LS4 : List (View.Piece (Elt F) S2048x128 .i32)), { LS5 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3 ∗ owns (c : Thread nD τ) arg14 fullShare xs4 ∗ owns (c : Thread nD τ) arg15 fullShare xs5 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3 ∗ owns (c : Thread nD τ) arg14 fullShare xs4 ∗ (∃ f, arg15.view.loc (c : Thread nD τ) ↦[arg15.view.set]{fullShare} arg15.view.writes (Elt F) f LS5) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, fun E K => ?run⟩
  case run =>
    simp only [cc0_dp_eq_skeleton]; unfold cc0_dp_skel
    simp only [k0_part295_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part296_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg13.eq_unread hfs3; obtain rfl := harg14.eq_unread hfs4; obtain rfl := harg15.eq_unread hfs5
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg13.read_unread _
      iexact HS3
    isplitl [HS4]
    · iexists _; isplitr; · ipureintro; exact harg14.read_unread _
      iexact HS4
    isplitl [HS5]; · iexists _; iexact HS5
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Dp.Gen

end
-- ==== Proof.Dp.RunD.lean ====
/- The whole body of the `dp` kernel, run at the points 15, 31 and 32, which also write a loss
   (case D of its conditionals): on whole buffers it loads and stores within bounds and hands every buffer back. The
   lists of pieces are what it leaves in the scratch that the next point reads. The run is the generated one with
   the closed forms of the two double-buffer offsets (Offsets.lean) at hand. -/
module

public import proofs.«01_k».proof.Proof.Dp.RunC

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7680000 in
/-- What the body's stores leave in each output's staging memref, as pieces (last first) IN CASE D (`scf.if` 0 not taken, `scf.if` 1 not taken, `scf.if` 2 not taken, `scf.if` 3 taken, `scf.if` 4 taken: points 15, 31, 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8) at anything, handed back at some contents nothing names. -/
noncomputable def kernelRun0_D (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) :
    Σ' (LS3 : List (View.Piece (Elt F) S2048x128 .f32)), Σ' (LS4 : List (View.Piece (Elt F) S2048x128 .i32)), { LS5 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3 ∗ owns (c : Thread nD τ) arg14 fullShare xs4 ∗ owns (c : Thread nD τ) arg15 fullShare xs5 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3 ∗ owns (c : Thread nD τ) arg14 fullShare xs4 ∗ (∃ f, arg15.view.loc (c : Thread nD τ) ↦[arg15.view.set]{fullShare} arg15.view.writes (Elt F) f LS5) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, fun E K => ?run⟩
  case run =>
    simp only [cc0_dp_eq_skeleton]; unfold cc0_dp_skel
    simp only [k0_part295_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part296_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg13.eq_unread hfs3; obtain rfl := harg14.eq_unread hfs4; obtain rfl := harg15.eq_unread hfs5
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg13.read_unread _
      iexact HS3
    isplitl [HS4]
    · iexists _; isplitr; · ipureintro; exact harg14.read_unread _
      iexact HS4
    isplitl [HS5]; · iexists _; iexact HS5
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Dp.Gen

end
-- ==== Proof.Dp.RunE.lean ====
/- The whole body of the `dp` kernel, run at point 16, which starts the second batch while it
   multiplies the last strip of the first (case E of its conditionals): on whole buffers it loads and stores within bounds and hands every buffer back. The
   lists of pieces are what it leaves in the scratch that the next point reads. The run is the generated one with
   the closed forms of the two double-buffer offsets (Offsets.lean) at hand. -/
module

public import proofs.«01_k».proof.Proof.Dp.RunD

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7704000 in
/-- What the body's stores leave in each output's staging memref, as pieces (last first) IN CASE E (`scf.if` 0 taken, `scf.if` 1 not taken, `scf.if` 2 not taken, `scf.if` 3 taken, `scf.if` 4 not taken: points 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8) at anything, handed back at some contents nothing names. -/
noncomputable def kernelRun0_E (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) :
    Σ' (LS3 : List (View.Piece (Elt F) S2048x128 .f32)), Σ' (LS4 : List (View.Piece (Elt F) S2048x128 .i32)), { LS5 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LS5) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_dp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_dp_eq_skeleton]; unfold cc0_dp_skel
    simp only [k0_part295_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part296_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    isplitl [HS4]; · iexists _; iexact HS4
    isplitl [HS5]; · iexists _; iexact HS5
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Dp.Gen

end
-- ==== Proof.Dp.Frame.lean ====
/- The frame of the `dp` program from the five runs of its body: what the carried scratch holds point by point, the
   obligation of the pipeline at every point, the launch, and `frame`. Nothing is said of what the outputs hold.
   The text is the generated one, over the runs of this directory. -/
module

public import proofs.«01_k».proof.Proof.Dp.RunE
public import Idealize.ShloMosaic.Lib.Claim

@[expose] public section

-- membership in a rectangle of production extents (`View.cover_of_tiled`): the elaborator's structural look
-- recurses once per coordinate of the long axes
set_option maxRecDepth 16384

noncomputable section

namespace Cert.Dp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: 1 piece of `S2048x128` tiling it (Lib/Ring.lean `Piece.tiledL`). -/
theorem scover0_A_3 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : cond0_2 i) (hc3 : ¬cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).1 S2048x128.size (by sl_kernel_rfl) y

/-- What case A leaves in scratch `arg13`: its pieces read back over junk. -/
def sout0_A_3 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : cond0_2 i) (hc3 : ¬cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) : Vec F S2048x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).1)

/-- Case A's pieces for scratch `arg14`, which the kernel carries between points, cover it: 1 piece of `S2048x128` tiling it (Lib/Ring.lean `Piece.tiledL`). -/
theorem scover0_A_4 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : cond0_2 i) (hc3 : ¬cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.1 S2048x128.size (by sl_kernel_rfl) y

/-- What case A leaves in scratch `arg14`: its pieces read back over junk. -/
def sout0_A_4 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : cond0_2 i) (hc3 : ¬cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) : Vec F S2048x128 .i32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.1)

/-- Case A's pieces for scratch `arg15`, which the kernel carries between points, cover it: one of them a store of the WHOLE buffer (Lib/Ring.lean `sl_whole_mem`). -/
theorem scover0_A_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : cond0_2 i) (hc3 : ¬cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (y : S2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.2.1 (by sl_whole_mem) y

/-- What case A leaves in scratch `arg15`: its pieces read back over junk. -/
def sout0_A_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : cond0_2 i) (hc3 : ¬cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) : Vec F S2048x128 .f32 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.2.1)

/-- Case B stores nothing into scratch `arg13`: it holds what the point before left. -/
def sout0_B_3 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) : Vec F S2048x128 .f32 := xs3

/-- Case B stores nothing into scratch `arg14`: it holds what the point before left. -/
def sout0_B_4 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) : Vec F S2048x128 .i32 := xs4

/-- Case B's pieces for scratch `arg15`, which the kernel carries between points, cover it: 32 pieces of `S64x128` tiling it (Lib/Ring.lean `Piece.tiledL`). -/
theorem scover0_B_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) (y : S2048x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 xs3 xs4 xs5).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 xs3 xs4 xs5).2.2.1 S64x128.size (by sl_kernel_rfl) y

/-- What case B leaves in scratch `arg15`: its pieces read back over junk. -/
def sout0_B_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) : Vec F S2048x128 .f32 :=
  VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 xs3 xs4 xs5).2.2.1)

/-- Case C stores nothing into scratch `arg13`: it holds what the point before left. -/
def sout0_C_3 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) : Vec F S2048x128 .f32 := xs3

/-- Case C stores nothing into scratch `arg14`: it holds what the point before left. -/
def sout0_C_4 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) : Vec F S2048x128 .i32 := xs4

/-- Case C's pieces for scratch `arg15`, which the kernel carries between points, cover it: 32 pieces of `S64x128` tiling it (Lib/Ring.lean `Piece.tiledL`). -/
theorem scover0_C_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) (y : S2048x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 xs3 xs4 xs5).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 xs3 xs4 xs5).2.2.1 S64x128.size (by sl_kernel_rfl) y

/-- What case C leaves in scratch `arg15`: its pieces read back over junk. -/
def sout0_C_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) : Vec F S2048x128 .f32 :=
  VS0_5.read (Elt F) (VS0_5.writes (Elt F) VS0_5.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 xs3 xs4 xs5).2.2.1)

/-- Case D stores nothing into scratch `arg13`: it holds what the point before left. -/
def sout0_D_3 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) : Vec F S2048x128 .f32 := xs3

/-- Case D stores nothing into scratch `arg14`: it holds what the point before left. -/
def sout0_D_4 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) : Vec F S2048x128 .i32 := xs4

/-- Case D's pieces for scratch `arg15`, which the kernel carries between points, cover it: 32 pieces of `S64x128` tiling it (Lib/Ring.lean `Piece.tiledL`). -/
theorem scover0_D_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) (y : S2048x128.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 xs3 xs4 xs5).2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 xs3 xs4 xs5).2.2.1 S64x128.size (by sl_kernel_rfl) y

/-- What case D leaves in scratch `arg15`: its pieces read back over junk. -/
def sout0_D_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : ¬cond0_0 i) (hc1 : ¬cond0_1 i) (hc2 : ¬cond0_2 i) (hc3 : cond0_3 i) (hc4 : cond0_4 i)
    (x0 : Vec F S1x2048x512 .f32) (x1 : Vec F S1x1x2048 .f32) (x2 : Vec F S1x1x2048 .i32) (x3 : Vec F S1x2048x3072 .fp8e4m3) (x4 : Vec F S1x1x2048 .f32) (xs3 : Vec F S2048x128 .f32) (xs4 : Vec F S2048x128 .i32) (xs5 : Vec F S2048x128 .f32) : Vec F S2048x128 .f32 :=
  VS0_5.read (Elt F) (VS0_5.writes (Elt F) VS0_5.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 xs3 xs4 xs5).2.2.1)

/-- Case E's pieces for scratch `arg13`, which the kernel carries between points, cover it: 1 piece of `S2048x128` tiling it (Lib/Ring.lean `Piece.tiledL`). -/
theorem scover0_E_3 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (y : S2048x128.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).1 S2048x128.size (by sl_kernel_rfl) y

/-- What case E leaves in scratch `arg13`: its pieces read back over junk. -/
def sout0_E_3 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) : Vec F S2048x128 .f32 :=
  VS0_3.read (Elt F) (VS0_3.writes (Elt F) VS0_3.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).1)

/-- Case E's pieces for scratch `arg14`, which the kernel carries between points, cover it: 1 piece of `S2048x128` tiling it (Lib/Ring.lean `Piece.tiledL`). -/
theorem scover0_E_4 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (y : S2048x128.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.1 S2048x128.size (by sl_kernel_rfl) y

/-- What case E leaves in scratch `arg14`: its pieces read back over junk. -/
def sout0_E_4 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) : Vec F S2048x128 .i32 :=
  VS0_4.read (Elt F) (VS0_4.writes (Elt F) VS0_4.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.1)

/-- Case E's pieces for scratch `arg15`, which the kernel carries between points, cover it: one of them a store of the WHOLE buffer (Lib/Ring.lean `sl_whole_mem`). -/
theorem scover0_E_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) (y : S2048x128.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.2.1, y ∈ pc.1.set :=
  View.cover_of_wholeMem (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.2.1 (by sl_whole_mem) y

/-- What case E leaves in scratch `arg15`: its pieces read back over junk. -/
def sout0_E_5 (c : Dev nD) (i : grid0.Coords) (arg1 : Memref sig .tc .vmem S1x2048x512 .f32) (harg1 : arg1.IsWhole) (arg2 : Memref sig .tc .vmem S1x1x2048 .f32) (harg2 : arg2.IsWhole) (arg3 : Memref sig .tc .vmem S1x1x2048 .i32) (harg3 : arg3.IsWhole) (arg4 : Memref sig .tc .vmem S1x2048x3072 .fp8e4m3) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x512x3072 .bf16) (harg7 : arg7.IsWhole) (arg8 : Memref sig .tc .vmem S1x2048x512 .fp8e5m2) (harg8 : arg8.IsWhole) (arg9 : Memref sig .tc .vmem S1x1x512 .f32) (harg9 : arg9.IsWhole) (arg10 : Memref sig .tc .vmem S2048x512 .f32) (harg10 : arg10.IsWhole) (arg11 : Memref sig .tc .vmem S2x512x2048 .bf16) (harg11 : arg11.IsWhole) (arg12 : Memref sig .tc .vmem S2048x3072 .bf16) (harg12 : arg12.IsWhole) (arg13 : Memref sig .tc .vmem S2048x128 .f32) (harg13 : arg13.IsWhole) (arg14 : Memref sig .tc .vmem S2048x128 .i32) (harg14 : arg14.IsWhole) (arg15 : Memref sig .tc .vmem S2048x128 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S2x512x128 .f32) (harg18 : arg18.IsWhole) (hc0 : cond0_0 i) (hc1 : ¬cond0_1 i) (hc2 : ¬cond0_2 i) (hc3 : cond0_3 i) (hc4 : ¬cond0_4 i)
    (x0 : Vec F S1x2048x512 .f32) (x1 : Vec F S1x1x2048 .f32) (x2 : Vec F S1x1x2048 .i32) (x3 : Vec F S1x2048x3072 .fp8e4m3) (x4 : Vec F S1x1x2048 .f32) : Vec F S2048x128 .f32 :=
  VS0_5.read (Elt F) (VS0_5.writes (Elt F) VS0_5.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x128 .f32 × Vec F S2048x128 .i32 × Vec F S2048x128 .f32
  | 0, hn => (sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (by (try dsimp only); omega)) (fun h => (fun h => by (try dsimp only at h); omega) ((hcond0_1 ⟨0, hn⟩).mp h)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (by (try dsimp only); omega)) (fun h => (fun h => by (try dsimp only at h); omega) ((hcond0_1 ⟨0, hn⟩).mp h)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (by (try dsimp only); omega)) (fun h => (fun h => by (try dsimp only at h); omega) ((hcond0_1 ⟨0, hn⟩).mp h)) ((hcond0_2 ⟨0, hn⟩).mpr (Nat.zero_mod _)) (fun h => (fun h => by (try dsimp only at h); omega) ((hcond0_3 ⟨0, hn⟩).mp h)) (fun h => (fun h => by (try dsimp only at h); omega) ((hcond0_4 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : ((n + 1) % 33 = 0 ∨ (n + 1) % 33 = 16) then
      if h1 : (n + 1) % 16 = 1 then
        False.elim (by have hN : n + 1 < 33 := lt_of_lt_of_eq hn (show cfg0.N = 33 from N_0); omega)
      else
        if h2 : (n + 1) % 33 = 0 then
          if h3 : 1 ≤ (n + 1) then
            False.elim (by have hN : n + 1 < 33 := lt_of_lt_of_eq hn (show cfg0.N = 33 from N_0); omega)
          else
            if h4 : ((n + 1) % 33 = 15 ∨ (n + 1) % 33 = 31 ∨ (n + 1) % 33 = 32) then
              False.elim (by have hN : n + 1 < 33 := lt_of_lt_of_eq hn (show cfg0.N = 33 from N_0); omega)
            else
              (sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
        else
          if h3 : 1 ≤ (n + 1) then
            if h4 : ((n + 1) % 33 = 15 ∨ (n + 1) % 33 = 31 ∨ (n + 1) % 33 = 32) then
              False.elim (by have hN : n + 1 < 33 := lt_of_lt_of_eq hn (show cfg0.N = 33 from N_0); omega)
            else
              (sout0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_E_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
          else
            False.elim (by have hN : n + 1 < 33 := lt_of_lt_of_eq hn (show cfg0.N = 33 from N_0); omega)
    else
      if h1 : (n + 1) % 16 = 1 then
        if h2 : (n + 1) % 33 = 0 then
          False.elim (by have hN : n + 1 < 33 := lt_of_lt_of_eq hn (show cfg0.N = 33 from N_0); omega)
        else
          if h3 : 1 ≤ (n + 1) then
            if h4 : ((n + 1) % 33 = 15 ∨ (n + 1) % 33 = 31 ∨ (n + 1) % 33 = 32) then
              False.elim (by have hN : n + 1 < 33 := lt_of_lt_of_eq hn (show cfg0.N = 33 from N_0); omega)
            else
              (sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2)
          else
            False.elim (by have hN : n + 1 < 33 := lt_of_lt_of_eq hn (show cfg0.N = 33 from N_0); omega)
      else
        if h2 : (n + 1) % 33 = 0 then
          False.elim (by have hN : n + 1 < 33 := lt_of_lt_of_eq hn (show cfg0.N = 33 from N_0); omega)
        else
          if h3 : 1 ≤ (n + 1) then
            if h4 : ((n + 1) % 33 = 15 ∨ (n + 1) % 33 = 31 ∨ (n + 1) % 33 = 32) then
              (sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2, sout0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2, sout0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) ((hcond0_4 ⟨n + 1, hn⟩).mpr h4) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2)
            else
              (sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2)
          else
            False.elim (by have hN : n + 1 < 33 := lt_of_lt_of_eq hn (show cfg0.N = 33 from N_0); omega)

/-- `outsAt0` at a point of case A: that case's contents. -/
theorem outsAt0_A (c : Dev nD) (t : Fin cfg0.N) (h0 : (t.val % 33 = 0 ∨ t.val % 33 = 16)) (h1 : ¬t.val % 16 = 1) (h2 : t.val % 33 = 0) (h3 : ¬1 ≤ t.val) (h4 : ¬(t.val % 33 = 15 ∨ t.val % 33 = 31 ∨ t.val % 33 = 32)) :
    outsAt0 m c t.val t.isLt = (sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_pos h2).trans ((dif_neg h3).trans ((dif_neg h4).trans rfl))))

/-- `outsAt0` at a point of case B: that case's contents, over what the point before left. -/
theorem outsAt0_B (c : Dev nD) (t : Fin cfg0.N) (h0 : ¬(t.val % 33 = 0 ∨ t.val % 33 = 16)) (h1 : t.val % 16 = 1) (h2 : ¬t.val % 33 = 0) (h3 : 1 ≤ t.val) (h4 : ¬(t.val % 33 = 15 ∨ t.val % 33 = 31 ∨ t.val % 33 = 32)) :
    outsAt0 m c t.val t.isLt = (sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact by omega)
  | succ n => exact (dif_neg h0).trans ((dif_pos h1).trans ((dif_neg h2).trans ((dif_pos h3).trans ((dif_neg h4).trans rfl))))

/-- `outsAt0` at a point of case C: that case's contents, over what the point before left. -/
theorem outsAt0_C (c : Dev nD) (t : Fin cfg0.N) (h0 : ¬(t.val % 33 = 0 ∨ t.val % 33 = 16)) (h1 : ¬t.val % 16 = 1) (h2 : ¬t.val % 33 = 0) (h3 : 1 ≤ t.val) (h4 : ¬(t.val % 33 = 15 ∨ t.val % 33 = 31 ∨ t.val % 33 = 32)) :
    outsAt0 m c t.val t.isLt = (sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact by omega)
  | succ n => exact (dif_neg h0).trans ((dif_neg h1).trans ((dif_neg h2).trans ((dif_pos h3).trans ((dif_neg h4).trans rfl))))

/-- `outsAt0` at a point of case D: that case's contents, over what the point before left. -/
theorem outsAt0_D (c : Dev nD) (t : Fin cfg0.N) (h0 : ¬(t.val % 33 = 0 ∨ t.val % 33 = 16)) (h1 : ¬t.val % 16 = 1) (h2 : ¬t.val % 33 = 0) (h3 : 1 ≤ t.val) (h4 : (t.val % 33 = 15 ∨ t.val % 33 = 31 ∨ t.val % 33 = 32)) :
    outsAt0 m c t.val t.isLt = (sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact by omega)
  | succ n => exact (dif_neg h0).trans ((dif_neg h1).trans ((dif_neg h2).trans ((dif_pos h3).trans ((dif_pos h4).trans rfl))))

/-- `outsAt0` at a point of case E: that case's contents. -/
theorem outsAt0_E (c : Dev nD) (t : Fin cfg0.N) (h0 : (t.val % 33 = 0 ∨ t.val % 33 = 16)) (h1 : ¬t.val % 16 = 1) (h2 : ¬t.val % 33 = 0) (h3 : 1 ≤ t.val) (h4 : ¬(t.val % 33 = 15 ∨ t.val % 33 = 31 ∨ t.val % 33 = 32)) :
    outsAt0 m c t.val t.isLt = (sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t), sout0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t), sout0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t)) := by
  obtain ⟨n, hn⟩ := t
  cases n with
  | zero => exact (by exfalso; (try dsimp only at h2); exact absurd (Nat.zero_mod _) h2)
  | succ n => exact (dif_pos h0).trans ((dif_neg h1).trans ((dif_neg h2).trans ((dif_pos h3).trans ((dif_neg h4).trans rfl))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).1) ∗ owns (c : Thread nD τ) scM0_4 fullShare ((outsAt0 m c n hn).2.1) ∗ owns (c : Thread nD τ) scM0_5 fullShare ((outsAt0 m c n hn).2.2) ∗ (∃ d, owns (c : Thread nD τ) scM0_6 fullShare d) ∗ (∃ d, owns (c : Thread nD τ) scM0_7 fullShare d) ∗ (∃ d, owns (c : Thread nD τ) scM0_8 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).1) ∗ owns (c : Thread nD τ) scM0_4 fullShare ((outsAt0 m c n hn).2.1) ∗ owns (c : Thread nD τ) scM0_5 fullShare ((outsAt0 m c n hn).2.2) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).1) ∗ owns (c : Thread nD τ) scM0_4 fullShare ((outsAt0 m c (n - 1) (by omega)).2.1) ∗ owns (c : Thread nD τ) scM0_5 fullShare ((outsAt0 m c (n - 1) (by omega)).2.2) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  cases n with
  | zero => exact absurd rfl hz
  | succ n => rfl

/-! ## The pipeline's proof data -/

/-- The output windows this certificate FORGETS (5, 6, 7, 8): nothing reads what the kernel leaves in them, so nothing
    of it is named (Lib/Pipeline/Dat.lean `Dat.toRForget`). -/
def forgets0 : Fin 9 → Bool := fun w => w.val == 5 || w.val == 6 || w.val == 7 || w.val == 8

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 32000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : (t.val % 33 = 0 ∨ t.val % 33 = 16)
  · by_cases h1 : t.val % 16 = 1
    · exfalso; omega
    · by_cases h2 : t.val % 33 = 0
      · by_cases h3 : 1 ≤ t.val
        · exfalso; omega
        · by_cases h4 : (t.val % 33 = 15 ∨ t.val % 33 = 31 ∨ t.val % 33 = 32)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · rw [PhiS_castSucc m c t, PhiS_zero m c _ _ hz, PhiA0_eq]
              rw [outsAt0_A m c t h0 h1 h2 h3 h4]
              unfold sout0_A_3 sout0_A_4 sout0_A_5; (try dsimp only)
              iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (fun h => h3 ((hcond0_3 t).mp h)) (fun h => h4 ((hcond0_4 t).mp h)) (iblk m c 0 t) (iblk m c 1 t) (iblk m c 2 t) (iblk m c 3 t) (iblk m c 4 t)).2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [H8]; · iexists _; iexact H8
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              iintro ⟨H0, H1, H2, H3, H4, H5, H6, H7, H8, HS0, HS1, HS2, ⟨%es3, HS3⟩, ⟨%es4, HS4⟩, ⟨%es5, HS5⟩, HS6, HS7, HS8⟩
              isplitl [HS0 HS1 HS2 HS3 HS4 HS5 HS6 HS7 HS8 Hg]
              · isplitl [HS0 HS1 HS2 HS3 HS4 HS5 HS6 HS7 HS8]
                · isplitl [HS0]
                  · iexact HS0
                  isplitl [HS1]
                  · iexact HS1
                  isplitl [HS2]
                  · iexact HS2
                  isplitl [HS3]
                  · unfold owns; iexists _; isplitr
                    swap; · iexact HS3
                    ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _)
                  isplitl [HS4]
                  · unfold owns; iexists _; isplitr
                    swap; · iexact HS4
                    ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _)
                  isplitl [HS5]
                  · unfold owns; iexists _; isplitr
                    swap; · iexact HS5
                    ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _)
                  isplitl [HS6]
                  · iexact HS6
                  isplitl [HS7]
                  · iexact HS7
                  iexact HS8
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              iexact H8
            · exfalso; have hN : t.val < 33 := lt_of_lt_of_eq t.isLt (show cfg0.N = 33 from N_0); omega
      · by_cases h3 : 1 ≤ t.val
        · by_cases h4 : (t.val % 33 = 15 ∨ t.val % 33 = 31 ∨ t.val % 33 = 32)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · exfalso; have hN : t.val < 33 := lt_of_lt_of_eq t.isLt (show cfg0.N = 33 from N_0); omega
            · rw [PhiS_castSucc m c t, PhiS_pos m c _ _ hz]
              rw [outsAt0_E m c t h0 h1 h2 h3 h4]
              unfold sout0_E_3 sout0_E_4 sout0_E_5; (try dsimp only)
              iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_E c (grid0.coords t) _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t)).2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [H8]; · iexists _; iexact H8
              isplitl [HS0]; · iexact HS0
              isplitl [HS1]; · iexact HS1
              isplitl [HS2]; · iexact HS2
              isplitl [HS3]; · iexists _; iexact HS3
              isplitl [HS4]; · iexists _; iexact HS4
              isplitl [HS5]; · iexists _; iexact HS5
              isplitl [HS6]; · iexact HS6
              isplitl [HS7]; · iexact HS7
              isplitl [HS8]; · iexact HS8
              iintro ⟨H0, H1, H2, H3, H4, H5, H6, H7, H8, HS0, HS1, HS2, ⟨%es3, HS3⟩, ⟨%es4, HS4⟩, ⟨%es5, HS5⟩, HS6, HS7, HS8⟩
              isplitl [HS0 HS1 HS2 HS3 HS4 HS5 HS6 HS7 HS8 Hg]
              · isplitl [HS0 HS1 HS2 HS3 HS4 HS5 HS6 HS7 HS8]
                · isplitl [HS0]
                  · iexact HS0
                  isplitl [HS1]
                  · iexact HS1
                  isplitl [HS2]
                  · iexact HS2
                  isplitl [HS3]
                  · unfold owns; iexists _; isplitr
                    swap; · iexact HS3
                    ipureintro; exact View.read_writes_of_cover _ _ _ _ _ (scover0_E_3 c _ _ _ _ _ _ _ _ _ _ _ _ _ _ _ _ _ _ _ _ _ _ _ _ _ _ _ _ _ _ _ _ _ _ _ _ _ _ _ _ _ _ _ _ _ _ _)
                  isplitl [HS4]
                  · unfold owns; iexists _; isplitr
                    swap; · iexact HS4
                    ipureintro; exact View.read_writes_of_cover _ _ _ _ _ (scover0_E_4 c _ _ _ _ _ _ _ _ _ _ _ _ _ _ _ _ _ _ _ _ _ _ _ _ _ _ _ _ _ _ _ _ _ _ _ _ _ _ _ _ _ _ _ _ _ _ _)
                  isplitl [HS5]
                  · unfold owns; iexists _; isplitr
                    swap; · iexact HS5
                    ipureintro; exact View.read_writes_of_cover _ _ _ _ _ (scover0_E_5 c _ _ _ _ _ _ _ _ _ _ _ _ _ _ _ _ _ _ _ _ _ _ _ _ _ _ _ _ _ _ _ _ _ _ _ _ _ _ _ _ _ _ _ _ _ _ _)
                  isplitl [HS6]
                  · iexact HS6
                  isplitl [HS7]
                  · iexact HS7
                  iexact HS8
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              iexact H8
        · exfalso; omega
  · by_cases h1 : t.val % 16 = 1
    · by_cases h2 : t.val % 33 = 0
      · exfalso; omega
      · by_cases h3 : 1 ≤ t.val
        · by_cases h4 : (t.val % 33 = 15 ∨ t.val % 33 = 31 ∨ t.val % 33 = 32)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · exfalso; have hN : t.val < 33 := lt_of_lt_of_eq t.isLt (show cfg0.N = 33 from N_0); omega
            · rw [PhiS_castSucc m c t, PhiS_pos m c _ _ hz]
              rw [outsAt0_B m c t h0 h1 h2 h3 h4]
              unfold sout0_B_3 sout0_B_4 sout0_B_5; (try dsimp only)
              iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (fun h => h4 ((hcond0_4 t).mp h)) (iblk m c 0 t) (iblk m c 1 t) (iblk m c 2 t) (iblk m c 3 t) (iblk m c 4 t) _ _ _).2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [H8]; · iexists _; iexact H8
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              iintro ⟨H0, H1, H2, H3, H4, H5, H6, H7, H8, HS0, HS1, HS2, HS3, HS4, ⟨%es5, HS5⟩, HS6, HS7, HS8⟩
              isplitl [HS0 HS1 HS2 HS3 HS4 HS5 HS6 HS7 HS8 Hg]
              · isplitl [HS0 HS1 HS2 HS3 HS4 HS5 HS6 HS7 HS8]
                · isplitl [HS0]
                  · iexact HS0
                  isplitl [HS1]
                  · iexact HS1
                  isplitl [HS2]
                  · iexact HS2
                  isplitl [HS3]
                  · iexact HS3
                  isplitl [HS4]
                  · iexact HS4
                  isplitl [HS5]
                  · unfold owns; iexists _; isplitr
                    swap; · iexact HS5
                    ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _ _ _ _ _ _)
                  isplitl [HS6]
                  · iexact HS6
                  isplitl [HS7]
                  · iexact HS7
                  iexact HS8
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              iexact H8
        · exfalso; omega
    · by_cases h2 : t.val % 33 = 0
      · exfalso; omega
      · by_cases h3 : 1 ≤ t.val
        · by_cases h4 : (t.val % 33 = 15 ∨ t.val % 33 = 31 ∨ t.val % 33 = 32)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · exfalso; have hN : t.val < 33 := lt_of_lt_of_eq t.isLt (show cfg0.N = 33 from N_0); omega
            · rw [PhiS_castSucc m c t, PhiS_pos m c _ _ hz]
              rw [outsAt0_D m c t h0 h1 h2 h3 h4]
              unfold sout0_D_3 sout0_D_4 sout0_D_5; (try dsimp only)
              iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_D c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) ((hcond0_4 t).mpr h4) (iblk m c 0 t) (iblk m c 1 t) (iblk m c 2 t) (iblk m c 3 t) (iblk m c 4 t) _ _ _).2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [H8]; · iexists _; iexact H8
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              iintro ⟨H0, H1, H2, H3, H4, H5, H6, H7, H8, HS0, HS1, HS2, HS3, HS4, ⟨%es5, HS5⟩, HS6, HS7, HS8⟩
              isplitl [HS0 HS1 HS2 HS3 HS4 HS5 HS6 HS7 HS8 Hg]
              · isplitl [HS0 HS1 HS2 HS3 HS4 HS5 HS6 HS7 HS8]
                · isplitl [HS0]
                  · iexact HS0
                  isplitl [HS1]
                  · iexact HS1
                  isplitl [HS2]
                  · iexact HS2
                  isplitl [HS3]
                  · iexact HS3
                  isplitl [HS4]
                  · iexact HS4
                  isplitl [HS5]
                  · unfold owns; iexists _; isplitr
                    swap; · iexact HS5
                    ipureintro; exact View.read_writes_of_cover _ _ _ _ _ (scover0_D_5 c _ _ _ _ _ _ _ _ _ _ _ _ _ _ _ _ _ _ _ _ _ _ _ _ _ _ _ _ _ _ _ _ _ _ _ _ _ _ _ _ _ _ _ _ _ _ _ _ _ _)
                  isplitl [HS6]
                  · iexact HS6
                  isplitl [HS7]
                  · iexact HS7
                  iexact HS8
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              iexact H8
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            by_cases hz : t.val = 0
            · exfalso; have hN : t.val < 33 := lt_of_lt_of_eq t.isLt (show cfg0.N = 33 from N_0); omega
            · rw [PhiS_castSucc m c t, PhiS_pos m c _ _ hz]
              rw [outsAt0_C m c t h0 h1 h2 h3 h4]
              unfold sout0_C_3 sout0_C_4 sout0_C_5; (try dsimp only)
              iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
              iapply ((kernelRun0_C c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (iblk m c 0 t) (iblk m c 1 t) (iblk m c 2 t) (iblk m c 3 t) (iblk m c 4 t) _ _ _).2.2.2 Set.univ _)
              isplitl [H0]; · iexact H0
              isplitl [H1]; · iexact H1
              isplitl [H2]; · iexact H2
              isplitl [H3]; · iexact H3
              isplitl [H4]; · iexact H4
              isplitl [H5]; · iexists _; iexact H5
              isplitl [H6]; · iexists _; iexact H6
              isplitl [H7]; · iexists _; iexact H7
              isplitl [H8]; · iexists _; iexact H8
              isplitl [HS0]; · iexact HS0
              isplitl [HS1]; · iexact HS1
              isplitl [HS2]; · iexact HS2
              isplitl [HS3]; · iexact HS3
              isplitl [HS4]; · iexact HS4
              isplitl [HS5]; · iexact HS5
              isplitl [HS6]; · iexact HS6
              isplitl [HS7]; · iexact HS7
              isplitl [HS8]; · iexact HS8
              iintro ⟨H0, H1, H2, H3, H4, H5, H6, H7, H8, HS0, HS1, HS2, HS3, HS4, ⟨%es5, HS5⟩, HS6, HS7, HS8⟩
              isplitl [HS0 HS1 HS2 HS3 HS4 HS5 HS6 HS7 HS8 Hg]
              · isplitl [HS0 HS1 HS2 HS3 HS4 HS5 HS6 HS7 HS8]
                · isplitl [HS0]
                  · iexact HS0
                  isplitl [HS1]
                  · iexact HS1
                  isplitl [HS2]
                  · iexact HS2
                  isplitl [HS3]
                  · iexact HS3
                  isplitl [HS4]
                  · iexact HS4
                  isplitl [HS5]
                  · unfold owns; iexists _; isplitr
                    swap; · iexact HS5
                    ipureintro; exact View.read_writes_of_cover _ _ _ _ _ (scover0_C_5 c _ _ _ _ _ _ _ _ _ _ _ _ _ _ _ _ _ _ _ _ _ _ _ _ _ _ _ _ _ _ _ _ _ _ _ _ _ _ _ _ _ _ _ _ _ _ _ _ _ _)
                  isplitl [HS6]
                  · iexact HS6
                  isplitl [HS7]
                  · iexact HS7
                  iexact HS8
                iexact Hg
              isplitl [Ho]; · iexact Ho
              isplitl [H0]; · iexact H0
              isplitl [H1]; · iexact H1
              isplitl [H2]; · iexact H2
              isplitl [H3]; · iexact H3
              isplitl [H4]; · iexact H4
              isplitl [H5]; · iexact H5
              isplitl [H6]; · iexact H6
              isplitl [H7]; · iexact H7
              iexact H8
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexact HS0
    isplitl [HS1]
    · iexact HS1
    isplitl [HS2]
    · iexact HS2
    isplitl [HS3]
    · iexists _; iexact HS3
    isplitl [HS4]
    · iexists _; iexact HS4
    isplitl [HS5]
    · iexists _; iexact HS5
    isplitl [HS6]
    · iexact HS6
    isplitl [HS7]
    · iexact HS7
    iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Dp`'s statement (Defs.lean) at any `F` — Proof.lean cites it at `Bits`:
    `theorem Cert.Proof.claim : Cert.Claim := ⟨Cert.Dp.Gen.facts, fun m ρ _ => Cert.Dp.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Dp.Gen

end
-- ==== Proof.lean ====
module

public import proofs.«01_k».proof.Defs
public import proofs.«01_k».proof.Proof.Gen.Dq
public import proofs.«01_k».proof.Proof.Gen.Dq.Skeleton
public import proofs.«01_k».proof.Proof.Gen.Dq.Launch
public import proofs.«01_k».proof.Proof.Gen.Dq.Points
public import proofs.«01_k».proof.Proof.Gen.Dq.Frame
public import proofs.«01_k».proof.Proof.Gen.DqIdeal
public import proofs.«01_k».proof.Proof.Gen.DqIdeal.Skeleton
public import proofs.«01_k».proof.Proof.Gen.DqIdeal.Launch
public import proofs.«01_k».proof.Proof.Gen.DqIdeal.Points
public import proofs.«01_k».proof.Proof.Gen.DqIdeal.Frame
public import proofs.«01_k».proof.Proof.Gen.DqRefIdeal
public import proofs.«01_k».proof.Proof.Gen.DqRefIdeal.Skeleton
public import proofs.«01_k».proof.Proof.Gen.DqRefIdeal.Launch
public import proofs.«01_k».proof.Proof.Gen.DqRefIdeal.Points
public import proofs.«01_k».proof.Proof.Gen.DqRefIdeal.Frame
public import proofs.«01_k».proof.Proof.Gen.DqIdeal.Value
public import proofs.«01_k».proof.Proof.Gen.DqRefIdeal.Run
public import proofs.«01_k».proof.Proof.Gen.DqRefIdeal.Read
public import proofs.«01_k».proof.Proof.Dq.Equal
public import proofs.«01_k».proof.Proof.Gen.Logits
public import proofs.«01_k».proof.Proof.Gen.Logits.Skeleton
public import proofs.«01_k».proof.Proof.Gen.Logits.Launch
public import proofs.«01_k».proof.Proof.Gen.Logits.Points
public import proofs.«01_k».proof.Proof.Gen.Logits.Frame
public import proofs.«01_k».proof.Proof.Gen.LogitsIdeal
public import proofs.«01_k».proof.Proof.Gen.LogitsIdeal.Skeleton
public import proofs.«01_k».proof.Proof.Gen.LogitsIdeal.Launch
public import proofs.«01_k».proof.Proof.Gen.LogitsIdeal.Points
public import proofs.«01_k».proof.Proof.Gen.LogitsIdeal.Frame
public import proofs.«01_k».proof.Proof.Gen.LogitsRefIdeal
public import proofs.«01_k».proof.Proof.Gen.LogitsRefIdeal.Skeleton
public import proofs.«01_k».proof.Proof.Gen.LogitsRefIdeal.Launch
public import proofs.«01_k».proof.Proof.Gen.LogitsRefIdeal.Points
public import proofs.«01_k».proof.Proof.Gen.LogitsRefIdeal.Frame
public import proofs.«01_k».proof.Proof.Gen.LogitsIdeal.Value
public import proofs.«01_k».proof.Proof.Gen.LogitsRefIdeal.Run
public import proofs.«01_k».proof.Proof.Gen.LogitsRefIdeal.Read
public import proofs.«01_k».proof.Proof.Logits.Equal
public import proofs.«01_k».proof.Proof.Gen.Dp
public import proofs.«01_k».proof.Proof.Dp.Frame
public import Idealize.ShloMosaic.Adequacy
public import Idealize.ShloMosaic.Init

@[expose] public section

noncomputable section

namespace Cert.Proof

open Idealize.ShloMosaic Idealize.SL.Sem Cert.Dq

theorem claim : Cert.Claim := ⟨Cert.Dq.Gen.facts, Cert.DqIdeal.Gen.facts, Cert.DqRefIdeal.Gen.facts,
  Cert.Logits.Gen.facts, Cert.LogitsIdeal.Gen.facts, Cert.LogitsRefIdeal.Gen.facts, Cert.Dp.Gen.facts,
  fun m ρ _ => Cert.Dq.Gen.frame m ρ, fun m ρ _ => Cert.DqIdeal.Gen.frame m ρ, fun m ρ _ => Cert.DqRefIdeal.Gen.frame m ρ,
  fun m ρ _ => Cert.Logits.Gen.frame m ρ, fun m ρ _ => Cert.LogitsIdeal.Gen.frame m ρ, fun m ρ _ => Cert.LogitsRefIdeal.Gen.frame m ρ,
  fun m ρ _ => Cert.Dp.Gen.frame m ρ,
  trivial, Cert.DqEqual.algebraic, trivial, Cert.LogitsEqual.algebraic⟩

end Cert.Proof

end
